-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S32x1x256 : Shape := ⟨3, ![32, 1, 256]⟩
abbrev S31 : Shape := ⟨1, ![31]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S32x256 : Shape := ⟨2, ![32, 256]⟩
abbrev S32x1 : Shape := ⟨2, ![32, 1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S32x1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v412 : Index := Scalar.indexCast v2
  let c0_280 : Index := 0#32
  let c0_281 : Index := 0#32
  ![v412.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_295 : BitVec 32 := 0#32
  let c0_i32_296 : BitVec 32 := 0#32
  ![v2.toNat, 0, 0]
def k0_dev32 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v422 : BitVec 32 := Scalar.addi v2 c1_i32_284
  let c32_i32_285 : BitVec 32 := 32#32
  let c0_i32_286 : BitVec 32 := 0#32
  let v423 : BitVec 1 := Scalar.cmpi .eq c32_i32_285 c0_i32_286
  let c1_i32_287 : BitVec 32 := 1#32
  let v424 : BitVec 32 := Scalar.select v423 c1_i32_287 c32_i32_285
  let v425 : BitVec 32 := Scalar.remsi v422 v424
  let c0_i32_289 : BitVec 32 := 0#32
  let v427 : BitVec 1 := Scalar.cmpi .slt v425 c0_i32_289
  let c0_i32_290 : BitVec 32 := 0#32
  let v428 : BitVec 1 := Scalar.cmpi .slt v424 c0_i32_290
  let v429 : BitVec 1 := Scalar.xori v427 v428
  let c0_i32_288 : BitVec 32 := 0#32
  let v426 : BitVec 1 := Scalar.cmpi .ne v425 c0_i32_288
  let v430 : BitVec 1 := Scalar.andi v429 v426
  let v431 : BitVec 32 := Scalar.addi v425 v424
  let v432 : BitVec 32 := Scalar.select v430 v431 v425
  let c1_i32_293 : BitVec 32 := 1#32
  let v433 : BitVec 32 := Scalar.muli v432 c1_i32_293
  let v434 : BitVec 32 := Scalar.addi c0_i32_294 v433
  v434.toNat
def k0_dev33 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_299 : BitVec 32 := 2#32
  let v441 : BitVec 32 := Scalar.addi v2 c2_i32_299
  let c32_i32_300 : BitVec 32 := 32#32
  let c0_i32_301 : BitVec 32 := 0#32
  let v442 : BitVec 1 := Scalar.cmpi .eq c32_i32_300 c0_i32_301
  let c1_i32_302 : BitVec 32 := 1#32
  let v443 : BitVec 32 := Scalar.select v442 c1_i32_302 c32_i32_300
  let v444 : BitVec 32 := Scalar.remsi v441 v443
  let c0_i32_304 : BitVec 32 := 0#32
  let v446 : BitVec 1 := Scalar.cmpi .slt v444 c0_i32_304
  let c0_i32_305 : BitVec 32 := 0#32
  let v447 : BitVec 1 := Scalar.cmpi .slt v443 c0_i32_305
  let v448 : BitVec 1 := Scalar.xori v446 v447
  let c0_i32_303 : BitVec 32 := 0#32
  let v445 : BitVec 1 := Scalar.cmpi .ne v444 c0_i32_303
  let v449 : BitVec 1 := Scalar.andi v448 v445
  let v450 : BitVec 32 := Scalar.addi v444 v443
  let v451 : BitVec 32 := Scalar.select v449 v450 v444
  let c1_i32_308 : BitVec 32 := 1#32
  let v452 : BitVec 32 := Scalar.muli v451 c1_i32_308
  let v453 : BitVec 32 := Scalar.addi c0_i32_309 v452
  v453.toNat
def k0_dev34 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_314 : BitVec 32 := 3#32
  let v460 : BitVec 32 := Scalar.addi v2 c3_i32_314
  let c32_i32_315 : BitVec 32 := 32#32
  let c0_i32_316 : BitVec 32 := 0#32
  let v461 : BitVec 1 := Scalar.cmpi .eq c32_i32_315 c0_i32_316
  let c1_i32_317 : BitVec 32 := 1#32
  let v462 : BitVec 32 := Scalar.select v461 c1_i32_317 c32_i32_315
  let v463 : BitVec 32 := Scalar.remsi v460 v462
  let c0_i32_319 : BitVec 32 := 0#32
  let v465 : BitVec 1 := Scalar.cmpi .slt v463 c0_i32_319
  let c0_i32_320 : BitVec 32 := 0#32
  let v466 : BitVec 1 := Scalar.cmpi .slt v462 c0_i32_320
  let v467 : BitVec 1 := Scalar.xori v465 v466
  let c0_i32_318 : BitVec 32 := 0#32
  let v464 : BitVec 1 := Scalar.cmpi .ne v463 c0_i32_318
  let v468 : BitVec 1 := Scalar.andi v467 v464
  let v469 : BitVec 32 := Scalar.addi v463 v462
  let v470 : BitVec 32 := Scalar.select v468 v469 v463
  let c1_i32_323 : BitVec 32 := 1#32
  let v471 : BitVec 32 := Scalar.muli v470 c1_i32_323
  let v472 : BitVec 32 := Scalar.addi c0_i32_324 v471
  v472.toNat
def k0_dev35 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_329 : BitVec 32 := 4#32
  let v479 : BitVec 32 := Scalar.addi v2 c4_i32_329
  let c32_i32_330 : BitVec 32 := 32#32
  let c0_i32_331 : BitVec 32 := 0#32
  let v480 : BitVec 1 := Scalar.cmpi .eq c32_i32_330 c0_i32_331
  let c1_i32_332 : BitVec 32 := 1#32
  let v481 : BitVec 32 := Scalar.select v480 c1_i32_332 c32_i32_330
  let v482 : BitVec 32 := Scalar.remsi v479 v481
  let c0_i32_334 : BitVec 32 := 0#32
  let v484 : BitVec 1 := Scalar.cmpi .slt v482 c0_i32_334
  let c0_i32_335 : BitVec 32 := 0#32
  let v485 : BitVec 1 := Scalar.cmpi .slt v481 c0_i32_335
  let v486 : BitVec 1 := Scalar.xori v484 v485
  let c0_i32_333 : BitVec 32 := 0#32
  let v483 : BitVec 1 := Scalar.cmpi .ne v482 c0_i32_333
  let v487 : BitVec 1 := Scalar.andi v486 v483
  let v488 : BitVec 32 := Scalar.addi v482 v481
  let v489 : BitVec 32 := Scalar.select v487 v488 v482
  let c1_i32_338 : BitVec 32 := 1#32
  let v490 : BitVec 32 := Scalar.muli v489 c1_i32_338
  let v491 : BitVec 32 := Scalar.addi c0_i32_339 v490
  v491.toNat
def k0_dev36 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_344 : BitVec 32 := 5#32
  let v498 : BitVec 32 := Scalar.addi v2 c5_i32_344
  let c32_i32_345 : BitVec 32 := 32#32
  let c0_i32_346 : BitVec 32 := 0#32
  let v499 : BitVec 1 := Scalar.cmpi .eq c32_i32_345 c0_i32_346
  let c1_i32_347 : BitVec 32 := 1#32
  let v500 : BitVec 32 := Scalar.select v499 c1_i32_347 c32_i32_345
  let v501 : BitVec 32 := Scalar.remsi v498 v500
  let c0_i32_349 : BitVec 32 := 0#32
  let v503 : BitVec 1 := Scalar.cmpi .slt v501 c0_i32_349
  let c0_i32_350 : BitVec 32 := 0#32
  let v504 : BitVec 1 := Scalar.cmpi .slt v500 c0_i32_350
  let v505 : BitVec 1 := Scalar.xori v503 v504
  let c0_i32_348 : BitVec 32 := 0#32
  let v502 : BitVec 1 := Scalar.cmpi .ne v501 c0_i32_348
  let v506 : BitVec 1 := Scalar.andi v505 v502
  let v507 : BitVec 32 := Scalar.addi v501 v500
  let v508 : BitVec 32 := Scalar.select v506 v507 v501
  let c1_i32_353 : BitVec 32 := 1#32
  let v509 : BitVec 32 := Scalar.muli v508 c1_i32_353
  let v510 : BitVec 32 := Scalar.addi c0_i32_354 v509
  v510.toNat
def k0_dev37 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_359 : BitVec 32 := 6#32
  let v517 : BitVec 32 := Scalar.addi v2 c6_i32_359
  let c32_i32_360 : BitVec 32 := 32#32
  let c0_i32_361 : BitVec 32 := 0#32
  let v518 : BitVec 1 := Scalar.cmpi .eq c32_i32_360 c0_i32_361
  let c1_i32_362 : BitVec 32 := 1#32
  let v519 : BitVec 32 := Scalar.select v518 c1_i32_362 c32_i32_360
  let v520 : BitVec 32 := Scalar.remsi v517 v519
  let c0_i32_364 : BitVec 32 := 0#32
  let v522 : BitVec 1 := Scalar.cmpi .slt v520 c0_i32_364
  let c0_i32_365 : BitVec 32 := 0#32
  let v523 : BitVec 1 := Scalar.cmpi .slt v519 c0_i32_365
  let v524 : BitVec 1 := Scalar.xori v522 v523
  let c0_i32_363 : BitVec 32 := 0#32
  let v521 : BitVec 1 := Scalar.cmpi .ne v520 c0_i32_363
  let v525 : BitVec 1 := Scalar.andi v524 v521
  let v526 : BitVec 32 := Scalar.addi v520 v519
  let v527 : BitVec 32 := Scalar.select v525 v526 v520
  let c1_i32_368 : BitVec 32 := 1#32
  let v528 : BitVec 32 := Scalar.muli v527 c1_i32_368
  let v529 : BitVec 32 := Scalar.addi c0_i32_369 v528
  v529.toNat
def k0_dev38 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_374 : BitVec 32 := 7#32
  let v536 : BitVec 32 := Scalar.addi v2 c7_i32_374
  let c32_i32_375 : BitVec 32 := 32#32
  let c0_i32_376 : BitVec 32 := 0#32
  let v537 : BitVec 1 := Scalar.cmpi .eq c32_i32_375 c0_i32_376
  let c1_i32_377 : BitVec 32 := 1#32
  let v538 : BitVec 32 := Scalar.select v537 c1_i32_377 c32_i32_375
  let v539 : BitVec 32 := Scalar.remsi v536 v538
  let c0_i32_379 : BitVec 32 := 0#32
  let v541 : BitVec 1 := Scalar.cmpi .slt v539 c0_i32_379
  let c0_i32_380 : BitVec 32 := 0#32
  let v542 : BitVec 1 := Scalar.cmpi .slt v538 c0_i32_380
  let v543 : BitVec 1 := Scalar.xori v541 v542
  let c0_i32_378 : BitVec 32 := 0#32
  let v540 : BitVec 1 := Scalar.cmpi .ne v539 c0_i32_378
  let v544 : BitVec 1 := Scalar.andi v543 v540
  let v545 : BitVec 32 := Scalar.addi v539 v538
  let v546 : BitVec 32 := Scalar.select v544 v545 v539
  let c1_i32_383 : BitVec 32 := 1#32
  let v547 : BitVec 32 := Scalar.muli v546 c1_i32_383
  let v548 : BitVec 32 := Scalar.addi c0_i32_384 v547
  v548.toNat
def k0_dev39 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_389 : BitVec 32 := 8#32
  let v555 : BitVec 32 := Scalar.addi v2 c8_i32_389
  let c32_i32_390 : BitVec 32 := 32#32
  let c0_i32_391 : BitVec 32 := 0#32
  let v556 : BitVec 1 := Scalar.cmpi .eq c32_i32_390 c0_i32_391
  let c1_i32_392 : BitVec 32 := 1#32
  let v557 : BitVec 32 := Scalar.select v556 c1_i32_392 c32_i32_390
  let v558 : BitVec 32 := Scalar.remsi v555 v557
  let c0_i32_394 : BitVec 32 := 0#32
  let v560 : BitVec 1 := Scalar.cmpi .slt v558 c0_i32_394
  let c0_i32_395 : BitVec 32 := 0#32
  let v561 : BitVec 1 := Scalar.cmpi .slt v557 c0_i32_395
  let v562 : BitVec 1 := Scalar.xori v560 v561
  let c0_i32_393 : BitVec 32 := 0#32
  let v559 : BitVec 1 := Scalar.cmpi .ne v558 c0_i32_393
  let v563 : BitVec 1 := Scalar.andi v562 v559
  let v564 : BitVec 32 := Scalar.addi v558 v557
  let v565 : BitVec 32 := Scalar.select v563 v564 v558
  let c1_i32_398 : BitVec 32 := 1#32
  let v566 : BitVec 32 := Scalar.muli v565 c1_i32_398
  let v567 : BitVec 32 := Scalar.addi c0_i32_399 v566
  v567.toNat
def k0_dev40 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_404 : BitVec 32 := 9#32
  let v574 : BitVec 32 := Scalar.addi v2 c9_i32_404
  let c32_i32_405 : BitVec 32 := 32#32
  let c0_i32_406 : BitVec 32 := 0#32
  let v575 : BitVec 1 := Scalar.cmpi .eq c32_i32_405 c0_i32_406
  let c1_i32_407 : BitVec 32 := 1#32
  let v576 : BitVec 32 := Scalar.select v575 c1_i32_407 c32_i32_405
  let v577 : BitVec 32 := Scalar.remsi v574 v576
  let c0_i32_409 : BitVec 32 := 0#32
  let v579 : BitVec 1 := Scalar.cmpi .slt v577 c0_i32_409
  let c0_i32_410 : BitVec 32 := 0#32
  let v580 : BitVec 1 := Scalar.cmpi .slt v576 c0_i32_410
  let v581 : BitVec 1 := Scalar.xori v579 v580
  let c0_i32_408 : BitVec 32 := 0#32
  let v578 : BitVec 1 := Scalar.cmpi .ne v577 c0_i32_408
  let v582 : BitVec 1 := Scalar.andi v581 v578
  let v583 : BitVec 32 := Scalar.addi v577 v576
  let v584 : BitVec 32 := Scalar.select v582 v583 v577
  let c1_i32_413 : BitVec 32 := 1#32
  let v585 : BitVec 32 := Scalar.muli v584 c1_i32_413
  let v586 : BitVec 32 := Scalar.addi c0_i32_414 v585
  v586.toNat
def k0_dev41 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_419 : BitVec 32 := 10#32
  let v593 : BitVec 32 := Scalar.addi v2 c10_i32_419
  let c32_i32_420 : BitVec 32 := 32#32
  let c0_i32_421 : BitVec 32 := 0#32
  let v594 : BitVec 1 := Scalar.cmpi .eq c32_i32_420 c0_i32_421
  let c1_i32_422 : BitVec 32 := 1#32
  let v595 : BitVec 32 := Scalar.select v594 c1_i32_422 c32_i32_420
  let v596 : BitVec 32 := Scalar.remsi v593 v595
  let c0_i32_424 : BitVec 32 := 0#32
  let v598 : BitVec 1 := Scalar.cmpi .slt v596 c0_i32_424
  let c0_i32_425 : BitVec 32 := 0#32
  let v599 : BitVec 1 := Scalar.cmpi .slt v595 c0_i32_425
  let v600 : BitVec 1 := Scalar.xori v598 v599
  let c0_i32_423 : BitVec 32 := 0#32
  let v597 : BitVec 1 := Scalar.cmpi .ne v596 c0_i32_423
  let v601 : BitVec 1 := Scalar.andi v600 v597
  let v602 : BitVec 32 := Scalar.addi v596 v595
  let v603 : BitVec 32 := Scalar.select v601 v602 v596
  let c1_i32_428 : BitVec 32 := 1#32
  let v604 : BitVec 32 := Scalar.muli v603 c1_i32_428
  let v605 : BitVec 32 := Scalar.addi c0_i32_429 v604
  v605.toNat
def k0_dev42 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_434 : BitVec 32 := 11#32
  let v612 : BitVec 32 := Scalar.addi v2 c11_i32_434
  let c32_i32_435 : BitVec 32 := 32#32
  let c0_i32_436 : BitVec 32 := 0#32
  let v613 : BitVec 1 := Scalar.cmpi .eq c32_i32_435 c0_i32_436
  let c1_i32_437 : BitVec 32 := 1#32
  let v614 : BitVec 32 := Scalar.select v613 c1_i32_437 c32_i32_435
  let v615 : BitVec 32 := Scalar.remsi v612 v614
  let c0_i32_439 : BitVec 32 := 0#32
  let v617 : BitVec 1 := Scalar.cmpi .slt v615 c0_i32_439
  let c0_i32_440 : BitVec 32 := 0#32
  let v618 : BitVec 1 := Scalar.cmpi .slt v614 c0_i32_440
  let v619 : BitVec 1 := Scalar.xori v617 v618
  let c0_i32_438 : BitVec 32 := 0#32
  let v616 : BitVec 1 := Scalar.cmpi .ne v615 c0_i32_438
  let v620 : BitVec 1 := Scalar.andi v619 v616
  let v621 : BitVec 32 := Scalar.addi v615 v614
  let v622 : BitVec 32 := Scalar.select v620 v621 v615
  let c1_i32_443 : BitVec 32 := 1#32
  let v623 : BitVec 32 := Scalar.muli v622 c1_i32_443
  let v624 : BitVec 32 := Scalar.addi c0_i32_444 v623
  v624.toNat
def k0_dev43 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_449 : BitVec 32 := 12#32
  let v631 : BitVec 32 := Scalar.addi v2 c12_i32_449
  let c32_i32_450 : BitVec 32 := 32#32
  let c0_i32_451 : BitVec 32 := 0#32
  let v632 : BitVec 1 := Scalar.cmpi .eq c32_i32_450 c0_i32_451
  let c1_i32_452 : BitVec 32 := 1#32
  let v633 : BitVec 32 := Scalar.select v632 c1_i32_452 c32_i32_450
  let v634 : BitVec 32 := Scalar.remsi v631 v633
  let c0_i32_454 : BitVec 32 := 0#32
  let v636 : BitVec 1 := Scalar.cmpi .slt v634 c0_i32_454
  let c0_i32_455 : BitVec 32 := 0#32
  let v637 : BitVec 1 := Scalar.cmpi .slt v633 c0_i32_455
  let v638 : BitVec 1 := Scalar.xori v636 v637
  let c0_i32_453 : BitVec 32 := 0#32
  let v635 : BitVec 1 := Scalar.cmpi .ne v634 c0_i32_453
  let v639 : BitVec 1 := Scalar.andi v638 v635
  let v640 : BitVec 32 := Scalar.addi v634 v633
  let v641 : BitVec 32 := Scalar.select v639 v640 v634
  let c1_i32_458 : BitVec 32 := 1#32
  let v642 : BitVec 32 := Scalar.muli v641 c1_i32_458
  let v643 : BitVec 32 := Scalar.addi c0_i32_459 v642
  v643.toNat
def k0_dev44 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_464 : BitVec 32 := 13#32
  let v650 : BitVec 32 := Scalar.addi v2 c13_i32_464
  let c32_i32_465 : BitVec 32 := 32#32
  let c0_i32_466 : BitVec 32 := 0#32
  let v651 : BitVec 1 := Scalar.cmpi .eq c32_i32_465 c0_i32_466
  let c1_i32_467 : BitVec 32 := 1#32
  let v652 : BitVec 32 := Scalar.select v651 c1_i32_467 c32_i32_465
  let v653 : BitVec 32 := Scalar.remsi v650 v652
  let c0_i32_469 : BitVec 32 := 0#32
  let v655 : BitVec 1 := Scalar.cmpi .slt v653 c0_i32_469
  let c0_i32_470 : BitVec 32 := 0#32
  let v656 : BitVec 1 := Scalar.cmpi .slt v652 c0_i32_470
  let v657 : BitVec 1 := Scalar.xori v655 v656
  let c0_i32_468 : BitVec 32 := 0#32
  let v654 : BitVec 1 := Scalar.cmpi .ne v653 c0_i32_468
  let v658 : BitVec 1 := Scalar.andi v657 v654
  let v659 : BitVec 32 := Scalar.addi v653 v652
  let v660 : BitVec 32 := Scalar.select v658 v659 v653
  let c1_i32_473 : BitVec 32 := 1#32
  let v661 : BitVec 32 := Scalar.muli v660 c1_i32_473
  let v662 : BitVec 32 := Scalar.addi c0_i32_474 v661
  v662.toNat
def k0_dev45 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_479 : BitVec 32 := 14#32
  let v669 : BitVec 32 := Scalar.addi v2 c14_i32_479
  let c32_i32_480 : BitVec 32 := 32#32
  let c0_i32_481 : BitVec 32 := 0#32
  let v670 : BitVec 1 := Scalar.cmpi .eq c32_i32_480 c0_i32_481
  let c1_i32_482 : BitVec 32 := 1#32
  let v671 : BitVec 32 := Scalar.select v670 c1_i32_482 c32_i32_480
  let v672 : BitVec 32 := Scalar.remsi v669 v671
  let c0_i32_484 : BitVec 32 := 0#32
  let v674 : BitVec 1 := Scalar.cmpi .slt v672 c0_i32_484
  let c0_i32_485 : BitVec 32 := 0#32
  let v675 : BitVec 1 := Scalar.cmpi .slt v671 c0_i32_485
  let v676 : BitVec 1 := Scalar.xori v674 v675
  let c0_i32_483 : BitVec 32 := 0#32
  let v673 : BitVec 1 := Scalar.cmpi .ne v672 c0_i32_483
  let v677 : BitVec 1 := Scalar.andi v676 v673
  let v678 : BitVec 32 := Scalar.addi v672 v671
  let v679 : BitVec 32 := Scalar.select v677 v678 v672
  let c1_i32_488 : BitVec 32 := 1#32
  let v680 : BitVec 32 := Scalar.muli v679 c1_i32_488
  let v681 : BitVec 32 := Scalar.addi c0_i32_489 v680
  v681.toNat
def k0_dev46 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_494 : BitVec 32 := 15#32
  let v688 : BitVec 32 := Scalar.addi v2 c15_i32_494
  let c32_i32_495 : BitVec 32 := 32#32
  let c0_i32_496 : BitVec 32 := 0#32
  let v689 : BitVec 1 := Scalar.cmpi .eq c32_i32_495 c0_i32_496
  let c1_i32_497 : BitVec 32 := 1#32
  let v690 : BitVec 32 := Scalar.select v689 c1_i32_497 c32_i32_495
  let v691 : BitVec 32 := Scalar.remsi v688 v690
  let c0_i32_499 : BitVec 32 := 0#32
  let v693 : BitVec 1 := Scalar.cmpi .slt v691 c0_i32_499
  let c0_i32_500 : BitVec 32 := 0#32
  let v694 : BitVec 1 := Scalar.cmpi .slt v690 c0_i32_500
  let v695 : BitVec 1 := Scalar.xori v693 v694
  let c0_i32_498 : BitVec 32 := 0#32
  let v692 : BitVec 1 := Scalar.cmpi .ne v691 c0_i32_498
  let v696 : BitVec 1 := Scalar.andi v695 v692
  let v697 : BitVec 32 := Scalar.addi v691 v690
  let v698 : BitVec 32 := Scalar.select v696 v697 v691
  let c1_i32_503 : BitVec 32 := 1#32
  let v699 : BitVec 32 := Scalar.muli v698 c1_i32_503
  let v700 : BitVec 32 := Scalar.addi c0_i32_504 v699
  v700.toNat
def k0_dev47 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_509 : BitVec 32 := 16#32
  let v707 : BitVec 32 := Scalar.addi v2 c16_i32_509
  let c32_i32_510 : BitVec 32 := 32#32
  let c0_i32_511 : BitVec 32 := 0#32
  let v708 : BitVec 1 := Scalar.cmpi .eq c32_i32_510 c0_i32_511
  let c1_i32_512 : BitVec 32 := 1#32
  let v709 : BitVec 32 := Scalar.select v708 c1_i32_512 c32_i32_510
  let v710 : BitVec 32 := Scalar.remsi v707 v709
  let c0_i32_514 : BitVec 32 := 0#32
  let v712 : BitVec 1 := Scalar.cmpi .slt v710 c0_i32_514
  let c0_i32_515 : BitVec 32 := 0#32
  let v713 : BitVec 1 := Scalar.cmpi .slt v709 c0_i32_515
  let v714 : BitVec 1 := Scalar.xori v712 v713
  let c0_i32_513 : BitVec 32 := 0#32
  let v711 : BitVec 1 := Scalar.cmpi .ne v710 c0_i32_513
  let v715 : BitVec 1 := Scalar.andi v714 v711
  let v716 : BitVec 32 := Scalar.addi v710 v709
  let v717 : BitVec 32 := Scalar.select v715 v716 v710
  let c1_i32_518 : BitVec 32 := 1#32
  let v718 : BitVec 32 := Scalar.muli v717 c1_i32_518
  let v719 : BitVec 32 := Scalar.addi c0_i32_519 v718
  v719.toNat
def k0_dev48 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_524 : BitVec 32 := 17#32
  let v726 : BitVec 32 := Scalar.addi v2 c17_i32_524
  let c32_i32_525 : BitVec 32 := 32#32
  let c0_i32_526 : BitVec 32 := 0#32
  let v727 : BitVec 1 := Scalar.cmpi .eq c32_i32_525 c0_i32_526
  let c1_i32_527 : BitVec 32 := 1#32
  let v728 : BitVec 32 := Scalar.select v727 c1_i32_527 c32_i32_525
  let v729 : BitVec 32 := Scalar.remsi v726 v728
  let c0_i32_529 : BitVec 32 := 0#32
  let v731 : BitVec 1 := Scalar.cmpi .slt v729 c0_i32_529
  let c0_i32_530 : BitVec 32 := 0#32
  let v732 : BitVec 1 := Scalar.cmpi .slt v728 c0_i32_530
  let v733 : BitVec 1 := Scalar.xori v731 v732
  let c0_i32_528 : BitVec 32 := 0#32
  let v730 : BitVec 1 := Scalar.cmpi .ne v729 c0_i32_528
  let v734 : BitVec 1 := Scalar.andi v733 v730
  let v735 : BitVec 32 := Scalar.addi v729 v728
  let v736 : BitVec 32 := Scalar.select v734 v735 v729
  let c1_i32_533 : BitVec 32 := 1#32
  let v737 : BitVec 32 := Scalar.muli v736 c1_i32_533
  let v738 : BitVec 32 := Scalar.addi c0_i32_534 v737
  v738.toNat
def k0_dev49 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_539 : BitVec 32 := 18#32
  let v745 : BitVec 32 := Scalar.addi v2 c18_i32_539
  let c32_i32_540 : BitVec 32 := 32#32
  let c0_i32_541 : BitVec 32 := 0#32
  let v746 : BitVec 1 := Scalar.cmpi .eq c32_i32_540 c0_i32_541
  let c1_i32_542 : BitVec 32 := 1#32
  let v747 : BitVec 32 := Scalar.select v746 c1_i32_542 c32_i32_540
  let v748 : BitVec 32 := Scalar.remsi v745 v747
  let c0_i32_544 : BitVec 32 := 0#32
  let v750 : BitVec 1 := Scalar.cmpi .slt v748 c0_i32_544
  let c0_i32_545 : BitVec 32 := 0#32
  let v751 : BitVec 1 := Scalar.cmpi .slt v747 c0_i32_545
  let v752 : BitVec 1 := Scalar.xori v750 v751
  let c0_i32_543 : BitVec 32 := 0#32
  let v749 : BitVec 1 := Scalar.cmpi .ne v748 c0_i32_543
  let v753 : BitVec 1 := Scalar.andi v752 v749
  let v754 : BitVec 32 := Scalar.addi v748 v747
  let v755 : BitVec 32 := Scalar.select v753 v754 v748
  let c1_i32_548 : BitVec 32 := 1#32
  let v756 : BitVec 32 := Scalar.muli v755 c1_i32_548
  let v757 : BitVec 32 := Scalar.addi c0_i32_549 v756
  v757.toNat
def k0_dev50 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_554 : BitVec 32 := 19#32
  let v764 : BitVec 32 := Scalar.addi v2 c19_i32_554
  let c32_i32_555 : BitVec 32 := 32#32
  let c0_i32_556 : BitVec 32 := 0#32
  let v765 : BitVec 1 := Scalar.cmpi .eq c32_i32_555 c0_i32_556
  let c1_i32_557 : BitVec 32 := 1#32
  let v766 : BitVec 32 := Scalar.select v765 c1_i32_557 c32_i32_555
  let v767 : BitVec 32 := Scalar.remsi v764 v766
  let c0_i32_559 : BitVec 32 := 0#32
  let v769 : BitVec 1 := Scalar.cmpi .slt v767 c0_i32_559
  let c0_i32_560 : BitVec 32 := 0#32
  let v770 : BitVec 1 := Scalar.cmpi .slt v766 c0_i32_560
  let v771 : BitVec 1 := Scalar.xori v769 v770
  let c0_i32_558 : BitVec 32 := 0#32
  let v768 : BitVec 1 := Scalar.cmpi .ne v767 c0_i32_558
  let v772 : BitVec 1 := Scalar.andi v771 v768
  let v773 : BitVec 32 := Scalar.addi v767 v766
  let v774 : BitVec 32 := Scalar.select v772 v773 v767
  let c1_i32_563 : BitVec 32 := 1#32
  let v775 : BitVec 32 := Scalar.muli v774 c1_i32_563
  let v776 : BitVec 32 := Scalar.addi c0_i32_564 v775
  v776.toNat
def k0_dev51 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_569 : BitVec 32 := 20#32
  let v783 : BitVec 32 := Scalar.addi v2 c20_i32_569
  let c32_i32_570 : BitVec 32 := 32#32
  let c0_i32_571 : BitVec 32 := 0#32
  let v784 : BitVec 1 := Scalar.cmpi .eq c32_i32_570 c0_i32_571
  let c1_i32_572 : BitVec 32 := 1#32
  let v785 : BitVec 32 := Scalar.select v784 c1_i32_572 c32_i32_570
  let v786 : BitVec 32 := Scalar.remsi v783 v785
  let c0_i32_574 : BitVec 32 := 0#32
  let v788 : BitVec 1 := Scalar.cmpi .slt v786 c0_i32_574
  let c0_i32_575 : BitVec 32 := 0#32
  let v789 : BitVec 1 := Scalar.cmpi .slt v785 c0_i32_575
  let v790 : BitVec 1 := Scalar.xori v788 v789
  let c0_i32_573 : BitVec 32 := 0#32
  let v787 : BitVec 1 := Scalar.cmpi .ne v786 c0_i32_573
  let v791 : BitVec 1 := Scalar.andi v790 v787
  let v792 : BitVec 32 := Scalar.addi v786 v785
  let v793 : BitVec 32 := Scalar.select v791 v792 v786
  let c1_i32_578 : BitVec 32 := 1#32
  let v794 : BitVec 32 := Scalar.muli v793 c1_i32_578
  let v795 : BitVec 32 := Scalar.addi c0_i32_579 v794
  v795.toNat
def k0_dev52 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_584 : BitVec 32 := 21#32
  let v802 : BitVec 32 := Scalar.addi v2 c21_i32_584
  let c32_i32_585 : BitVec 32 := 32#32
  let c0_i32_586 : BitVec 32 := 0#32
  let v803 : BitVec 1 := Scalar.cmpi .eq c32_i32_585 c0_i32_586
  let c1_i32_587 : BitVec 32 := 1#32
  let v804 : BitVec 32 := Scalar.select v803 c1_i32_587 c32_i32_585
  let v805 : BitVec 32 := Scalar.remsi v802 v804
  let c0_i32_589 : BitVec 32 := 0#32
  let v807 : BitVec 1 := Scalar.cmpi .slt v805 c0_i32_589
  let c0_i32_590 : BitVec 32 := 0#32
  let v808 : BitVec 1 := Scalar.cmpi .slt v804 c0_i32_590
  let v809 : BitVec 1 := Scalar.xori v807 v808
  let c0_i32_588 : BitVec 32 := 0#32
  let v806 : BitVec 1 := Scalar.cmpi .ne v805 c0_i32_588
  let v810 : BitVec 1 := Scalar.andi v809 v806
  let v811 : BitVec 32 := Scalar.addi v805 v804
  let v812 : BitVec 32 := Scalar.select v810 v811 v805
  let c1_i32_593 : BitVec 32 := 1#32
  let v813 : BitVec 32 := Scalar.muli v812 c1_i32_593
  let v814 : BitVec 32 := Scalar.addi c0_i32_594 v813
  v814.toNat
def k0_dev53 (d0 : Dev nD) : Nat :=
  let c0_i32_609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_599 : BitVec 32 := 22#32
  let v821 : BitVec 32 := Scalar.addi v2 c22_i32_599
  let c32_i32_600 : BitVec 32 := 32#32
  let c0_i32_601 : BitVec 32 := 0#32
  let v822 : BitVec 1 := Scalar.cmpi .eq c32_i32_600 c0_i32_601
  let c1_i32_602 : BitVec 32 := 1#32
  let v823 : BitVec 32 := Scalar.select v822 c1_i32_602 c32_i32_600
  let v824 : BitVec 32 := Scalar.remsi v821 v823
  let c0_i32_604 : BitVec 32 := 0#32
  let v826 : BitVec 1 := Scalar.cmpi .slt v824 c0_i32_604
  let c0_i32_605 : BitVec 32 := 0#32
  let v827 : BitVec 1 := Scalar.cmpi .slt v823 c0_i32_605
  let v828 : BitVec 1 := Scalar.xori v826 v827
  let c0_i32_603 : BitVec 32 := 0#32
  let v825 : BitVec 1 := Scalar.cmpi .ne v824 c0_i32_603
  let v829 : BitVec 1 := Scalar.andi v828 v825
  let v830 : BitVec 32 := Scalar.addi v824 v823
  let v831 : BitVec 32 := Scalar.select v829 v830 v824
  let c1_i32_608 : BitVec 32 := 1#32
  let v832 : BitVec 32 := Scalar.muli v831 c1_i32_608
  let v833 : BitVec 32 := Scalar.addi c0_i32_609 v832
  v833.toNat
def k0_dev54 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_614 : BitVec 32 := 23#32
  let v840 : BitVec 32 := Scalar.addi v2 c23_i32_614
  let c32_i32_615 : BitVec 32 := 32#32
  let c0_i32_616 : BitVec 32 := 0#32
  let v841 : BitVec 1 := Scalar.cmpi .eq c32_i32_615 c0_i32_616
  let c1_i32_617 : BitVec 32 := 1#32
  let v842 : BitVec 32 := Scalar.select v841 c1_i32_617 c32_i32_615
  let v843 : BitVec 32 := Scalar.remsi v840 v842
  let c0_i32_619 : BitVec 32 := 0#32
  let v845 : BitVec 1 := Scalar.cmpi .slt v843 c0_i32_619
  let c0_i32_620 : BitVec 32 := 0#32
  let v846 : BitVec 1 := Scalar.cmpi .slt v842 c0_i32_620
  let v847 : BitVec 1 := Scalar.xori v845 v846
  let c0_i32_618 : BitVec 32 := 0#32
  let v844 : BitVec 1 := Scalar.cmpi .ne v843 c0_i32_618
  let v848 : BitVec 1 := Scalar.andi v847 v844
  let v849 : BitVec 32 := Scalar.addi v843 v842
  let v850 : BitVec 32 := Scalar.select v848 v849 v843
  let c1_i32_623 : BitVec 32 := 1#32
  let v851 : BitVec 32 := Scalar.muli v850 c1_i32_623
  let v852 : BitVec 32 := Scalar.addi c0_i32_624 v851
  v852.toNat
def k0_dev55 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_629 : BitVec 32 := 24#32
  let v859 : BitVec 32 := Scalar.addi v2 c24_i32_629
  let c32_i32_630 : BitVec 32 := 32#32
  let c0_i32_631 : BitVec 32 := 0#32
  let v860 : BitVec 1 := Scalar.cmpi .eq c32_i32_630 c0_i32_631
  let c1_i32_632 : BitVec 32 := 1#32
  let v861 : BitVec 32 := Scalar.select v860 c1_i32_632 c32_i32_630
  let v862 : BitVec 32 := Scalar.remsi v859 v861
  let c0_i32_634 : BitVec 32 := 0#32
  let v864 : BitVec 1 := Scalar.cmpi .slt v862 c0_i32_634
  let c0_i32_635 : BitVec 32 := 0#32
  let v865 : BitVec 1 := Scalar.cmpi .slt v861 c0_i32_635
  let v866 : BitVec 1 := Scalar.xori v864 v865
  let c0_i32_633 : BitVec 32 := 0#32
  let v863 : BitVec 1 := Scalar.cmpi .ne v862 c0_i32_633
  let v867 : BitVec 1 := Scalar.andi v866 v863
  let v868 : BitVec 32 := Scalar.addi v862 v861
  let v869 : BitVec 32 := Scalar.select v867 v868 v862
  let c1_i32_638 : BitVec 32 := 1#32
  let v870 : BitVec 32 := Scalar.muli v869 c1_i32_638
  let v871 : BitVec 32 := Scalar.addi c0_i32_639 v870
  v871.toNat
def k0_dev56 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_644 : BitVec 32 := 25#32
  let v878 : BitVec 32 := Scalar.addi v2 c25_i32_644
  let c32_i32_645 : BitVec 32 := 32#32
  let c0_i32_646 : BitVec 32 := 0#32
  let v879 : BitVec 1 := Scalar.cmpi .eq c32_i32_645 c0_i32_646
  let c1_i32_647 : BitVec 32 := 1#32
  let v880 : BitVec 32 := Scalar.select v879 c1_i32_647 c32_i32_645
  let v881 : BitVec 32 := Scalar.remsi v878 v880
  let c0_i32_649 : BitVec 32 := 0#32
  let v883 : BitVec 1 := Scalar.cmpi .slt v881 c0_i32_649
  let c0_i32_650 : BitVec 32 := 0#32
  let v884 : BitVec 1 := Scalar.cmpi .slt v880 c0_i32_650
  let v885 : BitVec 1 := Scalar.xori v883 v884
  let c0_i32_648 : BitVec 32 := 0#32
  let v882 : BitVec 1 := Scalar.cmpi .ne v881 c0_i32_648
  let v886 : BitVec 1 := Scalar.andi v885 v882
  let v887 : BitVec 32 := Scalar.addi v881 v880
  let v888 : BitVec 32 := Scalar.select v886 v887 v881
  let c1_i32_653 : BitVec 32 := 1#32
  let v889 : BitVec 32 := Scalar.muli v888 c1_i32_653
  let v890 : BitVec 32 := Scalar.addi c0_i32_654 v889
  v890.toNat
def k0_dev57 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_659 : BitVec 32 := 26#32
  let v897 : BitVec 32 := Scalar.addi v2 c26_i32_659
  let c32_i32_660 : BitVec 32 := 32#32
  let c0_i32_661 : BitVec 32 := 0#32
  let v898 : BitVec 1 := Scalar.cmpi .eq c32_i32_660 c0_i32_661
  let c1_i32_662 : BitVec 32 := 1#32
  let v899 : BitVec 32 := Scalar.select v898 c1_i32_662 c32_i32_660
  let v900 : BitVec 32 := Scalar.remsi v897 v899
  let c0_i32_664 : BitVec 32 := 0#32
  let v902 : BitVec 1 := Scalar.cmpi .slt v900 c0_i32_664
  let c0_i32_665 : BitVec 32 := 0#32
  let v903 : BitVec 1 := Scalar.cmpi .slt v899 c0_i32_665
  let v904 : BitVec 1 := Scalar.xori v902 v903
  let c0_i32_663 : BitVec 32 := 0#32
  let v901 : BitVec 1 := Scalar.cmpi .ne v900 c0_i32_663
  let v905 : BitVec 1 := Scalar.andi v904 v901
  let v906 : BitVec 32 := Scalar.addi v900 v899
  let v907 : BitVec 32 := Scalar.select v905 v906 v900
  let c1_i32_668 : BitVec 32 := 1#32
  let v908 : BitVec 32 := Scalar.muli v907 c1_i32_668
  let v909 : BitVec 32 := Scalar.addi c0_i32_669 v908
  v909.toNat
def k0_dev58 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_674 : BitVec 32 := 27#32
  let v916 : BitVec 32 := Scalar.addi v2 c27_i32_674
  let c32_i32_675 : BitVec 32 := 32#32
  let c0_i32_676 : BitVec 32 := 0#32
  let v917 : BitVec 1 := Scalar.cmpi .eq c32_i32_675 c0_i32_676
  let c1_i32_677 : BitVec 32 := 1#32
  let v918 : BitVec 32 := Scalar.select v917 c1_i32_677 c32_i32_675
  let v919 : BitVec 32 := Scalar.remsi v916 v918
  let c0_i32_679 : BitVec 32 := 0#32
  let v921 : BitVec 1 := Scalar.cmpi .slt v919 c0_i32_679
  let c0_i32_680 : BitVec 32 := 0#32
  let v922 : BitVec 1 := Scalar.cmpi .slt v918 c0_i32_680
  let v923 : BitVec 1 := Scalar.xori v921 v922
  let c0_i32_678 : BitVec 32 := 0#32
  let v920 : BitVec 1 := Scalar.cmpi .ne v919 c0_i32_678
  let v924 : BitVec 1 := Scalar.andi v923 v920
  let v925 : BitVec 32 := Scalar.addi v919 v918
  let v926 : BitVec 32 := Scalar.select v924 v925 v919
  let c1_i32_683 : BitVec 32 := 1#32
  let v927 : BitVec 32 := Scalar.muli v926 c1_i32_683
  let v928 : BitVec 32 := Scalar.addi c0_i32_684 v927
  v928.toNat
def k0_dev59 (d0 : Dev nD) : Nat :=
  let c0_i32_699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_689 : BitVec 32 := 28#32
  let v935 : BitVec 32 := Scalar.addi v2 c28_i32_689
  let c32_i32_690 : BitVec 32 := 32#32
  let c0_i32_691 : BitVec 32 := 0#32
  let v936 : BitVec 1 := Scalar.cmpi .eq c32_i32_690 c0_i32_691
  let c1_i32_692 : BitVec 32 := 1#32
  let v937 : BitVec 32 := Scalar.select v936 c1_i32_692 c32_i32_690
  let v938 : BitVec 32 := Scalar.remsi v935 v937
  let c0_i32_694 : BitVec 32 := 0#32
  let v940 : BitVec 1 := Scalar.cmpi .slt v938 c0_i32_694
  let c0_i32_695 : BitVec 32 := 0#32
  let v941 : BitVec 1 := Scalar.cmpi .slt v937 c0_i32_695
  let v942 : BitVec 1 := Scalar.xori v940 v941
  let c0_i32_693 : BitVec 32 := 0#32
  let v939 : BitVec 1 := Scalar.cmpi .ne v938 c0_i32_693
  let v943 : BitVec 1 := Scalar.andi v942 v939
  let v944 : BitVec 32 := Scalar.addi v938 v937
  let v945 : BitVec 32 := Scalar.select v943 v944 v938
  let c1_i32_698 : BitVec 32 := 1#32
  let v946 : BitVec 32 := Scalar.muli v945 c1_i32_698
  let v947 : BitVec 32 := Scalar.addi c0_i32_699 v946
  v947.toNat
def k0_dev60 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_704 : BitVec 32 := 29#32
  let v954 : BitVec 32 := Scalar.addi v2 c29_i32_704
  let c32_i32_705 : BitVec 32 := 32#32
  let c0_i32_706 : BitVec 32 := 0#32
  let v955 : BitVec 1 := Scalar.cmpi .eq c32_i32_705 c0_i32_706
  let c1_i32_707 : BitVec 32 := 1#32
  let v956 : BitVec 32 := Scalar.select v955 c1_i32_707 c32_i32_705
  let v957 : BitVec 32 := Scalar.remsi v954 v956
  let c0_i32_709 : BitVec 32 := 0#32
  let v959 : BitVec 1 := Scalar.cmpi .slt v957 c0_i32_709
  let c0_i32_710 : BitVec 32 := 0#32
  let v960 : BitVec 1 := Scalar.cmpi .slt v956 c0_i32_710
  let v961 : BitVec 1 := Scalar.xori v959 v960
  let c0_i32_708 : BitVec 32 := 0#32
  let v958 : BitVec 1 := Scalar.cmpi .ne v957 c0_i32_708
  let v962 : BitVec 1 := Scalar.andi v961 v958
  let v963 : BitVec 32 := Scalar.addi v957 v956
  let v964 : BitVec 32 := Scalar.select v962 v963 v957
  let c1_i32_713 : BitVec 32 := 1#32
  let v965 : BitVec 32 := Scalar.muli v964 c1_i32_713
  let v966 : BitVec 32 := Scalar.addi c0_i32_714 v965
  v966.toNat
def k0_dev61 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_719 : BitVec 32 := 30#32
  let v973 : BitVec 32 := Scalar.addi v2 c30_i32_719
  let c32_i32_720 : BitVec 32 := 32#32
  let c0_i32_721 : BitVec 32 := 0#32
  let v974 : BitVec 1 := Scalar.cmpi .eq c32_i32_720 c0_i32_721
  let c1_i32_722 : BitVec 32 := 1#32
  let v975 : BitVec 32 := Scalar.select v974 c1_i32_722 c32_i32_720
  let v976 : BitVec 32 := Scalar.remsi v973 v975
  let c0_i32_724 : BitVec 32 := 0#32
  let v978 : BitVec 1 := Scalar.cmpi .slt v976 c0_i32_724
  let c0_i32_725 : BitVec 32 := 0#32
  let v979 : BitVec 1 := Scalar.cmpi .slt v975 c0_i32_725
  let v980 : BitVec 1 := Scalar.xori v978 v979
  let c0_i32_723 : BitVec 32 := 0#32
  let v977 : BitVec 1 := Scalar.cmpi .ne v976 c0_i32_723
  let v981 : BitVec 1 := Scalar.andi v980 v977
  let v982 : BitVec 32 := Scalar.addi v976 v975
  let v983 : BitVec 32 := Scalar.select v981 v982 v976
  let c1_i32_728 : BitVec 32 := 1#32
  let v984 : BitVec 32 := Scalar.muli v983 c1_i32_728
  let v985 : BitVec 32 := Scalar.addi c0_i32_729 v984
  v985.toNat
def k0_dev62 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_734 : BitVec 32 := 31#32
  let v992 : BitVec 32 := Scalar.addi v2 c31_i32_734
  let c32_i32_735 : BitVec 32 := 32#32
  let c0_i32_736 : BitVec 32 := 0#32
  let v993 : BitVec 1 := Scalar.cmpi .eq c32_i32_735 c0_i32_736
  let c1_i32_737 : BitVec 32 := 1#32
  let v994 : BitVec 32 := Scalar.select v993 c1_i32_737 c32_i32_735
  let v995 : BitVec 32 := Scalar.remsi v992 v994
  let c0_i32_739 : BitVec 32 := 0#32
  let v997 : BitVec 1 := Scalar.cmpi .slt v995 c0_i32_739
  let c0_i32_740 : BitVec 32 := 0#32
  let v998 : BitVec 1 := Scalar.cmpi .slt v994 c0_i32_740
  let v999 : BitVec 1 := Scalar.xori v997 v998
  let c0_i32_738 : BitVec 32 := 0#32
  let v996 : BitVec 1 := Scalar.cmpi .ne v995 c0_i32_738
  let v1000 : BitVec 1 := Scalar.andi v999 v996
  let v1001 : BitVec 32 := Scalar.addi v995 v994
  let v1002 : BitVec 32 := Scalar.select v1000 v1001 v995
  let c1_i32_743 : BitVec 32 := 1#32
  let v1003 : BitVec 32 := Scalar.muli v1002 c1_i32_743
  let v1004 : BitVec 32 := Scalar.addi c0_i32_744 v1003
  v1004.toNat
def k0_off3 (d0 : Dev nD) (c1_i32_749 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1011 : BitVec 32 := Scalar.subi v2 c1_i32_749
  let c32_i32_750 : BitVec 32 := 32#32
  let c0_i32_751 : BitVec 32 := 0#32
  let v1012 : BitVec 1 := Scalar.cmpi .eq c32_i32_750 c0_i32_751
  let c1_i32_752 : BitVec 32 := 1#32
  let v1013 : BitVec 32 := Scalar.select v1012 c1_i32_752 c32_i32_750
  let v1014 : BitVec 32 := Scalar.remsi v1011 v1013
  let c0_i32_754 : BitVec 32 := 0#32
  let v1016 : BitVec 1 := Scalar.cmpi .slt v1014 c0_i32_754
  let c0_i32_755 : BitVec 32 := 0#32
  let v1017 : BitVec 1 := Scalar.cmpi .slt v1013 c0_i32_755
  let v1018 : BitVec 1 := Scalar.xori v1016 v1017
  let c0_i32_753 : BitVec 32 := 0#32
  let v1015 : BitVec 1 := Scalar.cmpi .ne v1014 c0_i32_753
  let v1019 : BitVec 1 := Scalar.andi v1018 v1015
  let v1020 : BitVec 32 := Scalar.addi v1014 v1013
  let v1021 : BitVec 32 := Scalar.select v1019 v1020 v1014
  let c0_i32_760 : BitVec 32 := 0#32
  let c0_i32_761 : BitVec 32 := 0#32
  ![v1021.toNat, 0, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S_, .f32⟩
  | .hbm, ⟨3, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Canon.lean ====
/-
# The kernel's body as four runs over the other devices

The printed body is a hundred and twenty-four communication steps in a row: thirty-one signals on the barrier semaphore, thirty-one
remote copies, thirty-one waits for what the others copy here and thirty-one waits for this device's own copies. Each of the four
runs does the same thing at step `k`, for `k` from 0 to 30, so the body is stated here with the four runs as folds over the list of
steps, and is the printed one.

Step `k` is towards the device `k + 1` places further round the mesh (`shift c k`); what arrives at step `k` comes from the device
`k + 1` places back (`back c k`).
-/
module

public import proofs.«01_k».proof.Proof.Gen.KernelIdeal
public import proofs.«01_k».proof.Proof.Gen.KernelIdeal.Skeleton

@[expose] public section

noncomputable section

namespace Cert.KernelIdeal.Scan

open Cert.KernelIdeal Cert.KernelIdeal.Gen
open Idealize.ShloMosaic Idealize.SL.Sem

variable {F : FTy → Type} [FloatOps F]

/-! ## Around the mesh -/

set_option backward.proofsInPublic true in
/-- The device `k + 1` places further round. -/
def shift (c : Dev nD) (k : Fin 31) : Dev nD := ⟨(c.val + (k.val + 1)) % 32, Nat.mod_lt _ (by decide)⟩
set_option backward.proofsInPublic true in
/-- The device `k + 1` places back. -/
def back (c : Dev nD) (k : Fin 31) : Dev nD := ⟨(c.val + (31 - k.val)) % 32, Nat.mod_lt _ (by decide)⟩

theorem back_shift (c : Dev nD) (k : Fin 31) : back (shift c k) k = c := by
  have h1 : c.val < 32 := c.isLt
  have h2 := k.isLt
  refine Fin.ext ?_
  simp only [shift, back]
  omega
theorem shift_back (c : Dev nD) (k : Fin 31) : shift (back c k) k = c := by
  have h1 : c.val < 32 := c.isLt
  have h2 := k.isLt
  refine Fin.ext ?_
  simp only [shift, back]
  omega

/-- The devices the kernel's signals name, in its order. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
/-- The devices its copies name, in its order. -/
def dmaDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]

set_option maxRecDepth 8000 in
theorem sigDev_eq : ∀ (c : Dev nD) (k : Fin 31), sigDev c k = shift c k := by decide +kernel
set_option maxRecDepth 8000 in
theorem dmaDev_eq : ∀ (c : Dev nD) (k : Fin 31), dmaDev c k = shift c k := by decide +kernel

/-! ## The memrefs and semaphores -/

abbrev xM : Memref sig .tc .vmem S256x256 .f32 := Memref.whole cc0_stg0_0
abbrev oM : Memref sig .tc .vmem S256x256 .f32 := Memref.whole cc0_stg1_0
/-- The table of totals: one row per device. -/
abbrev tM : Memref sig .tc .vmem S32x1x256 .f32 := Memref.whole cc0_scratch0

/-- The barrier semaphore. -/
abbrev barS : Sem sig := (SemArray.scalar (sig.barrier 0 rfl) : Sems sig S_).sem
set_option backward.proofsInPublic true in
/-- The semaphore a device's copy of step `k` completes on where it leaves, -/
abbrev sendS (k : Fin 31) : DmaSem sig := ⟨2 + k.val, by have := k.isLt; show 2 + k.val < 64; omega⟩
set_option backward.proofsInPublic true in
/-- and where it arrives. -/
abbrev recvS (k : Fin 31) : DmaSem sig := ⟨33 + k.val, by have := k.isLt; show 33 + k.val < 64; omega⟩

/-- The row of the table that belongs to the running device, as the kernel's copies name it, -/
abbrev ownV (c : Dev nD) : Memref sig .tc .vmem S1x1x256 .f32 :=
  tM.slice (Rect.unit (s := S32x1x256) (k0_off2 c) S1x1x256.size (k0_off2_inb c)) (fun _ => rfl)
/-- and the row the wait of step `k` names. -/
abbrev inV (c : Dev nD) (k : Fin 31) : Memref sig .tc .vmem S1x1x256 .f32 :=
  tM.slice (Rect.unit (s := S32x1x256) (k0_off3 c (BitVec.ofNat 32 (1 + k.val))) S1x1x256.size (k0_off3_inb c k)) (fun _ => rfl)

abbrev rX : Rect S256x256 := Rect.unit (s := S256x256) ![0, 0] S256x256.size inb_S256x256_S256x256_0_0
abbrev rT : Rect S32x1x256 := Rect.unit (s := S32x1x256) ![0, 0, 0] S32x1x256.size inb_S32x1x256_S32x1x256_0_0_0
abbrev rOwn (c : Dev nD) : Rect S32x1x256 := Rect.unit (s := S32x1x256) (k0_off1 c) S1x1x256.size (k0_off1_inb c)

/-- The device's rank as the kernel computes it. -/
abbrev rankW (c : Dev nD) : BitVec 32 := Scalar.remsi (Scalar.divsi (Dev.word c) 1#32) 32#32

/-! ## The runs -/

abbrev Eff : Type → Type _ := TpuEff nD τ sig (Elt F) Λ₀ .tc

/-- One effect per step of the list, then `rest`. -/
def run (f : Fin 31 → Eff (F := F) PUnit) (l : List (Fin 31)) (rest : Prog (Eff (F := F)) PUnit) : Prog (Eff (F := F)) PUnit :=
  l.foldr (fun k r => .op (f k) fun _ => r) rest

theorem run_cons (f : Fin 31 → Eff (F := F) PUnit) (k : Fin 31) (l : List (Fin 31)) (rest : Prog (Eff (F := F)) PUnit) :
    run f (k :: l) rest = .op (f k) fun _ => run f l rest := rfl
theorem run_nil (f : Fin 31 → Eff (F := F) PUnit) (rest : Prog (Eff (F := F)) PUnit) : run f [] rest = rest := rfl

/-- Step `k`'s signal, to device `d k`; -/
def sigEff (d : Fin 31 → Dev nD) (k : Fin 31) : Eff (F := F) PUnit := .semSignal (d k : Dev nD).tc barS 1
/-- its copy of device `c`'s own row into the same row on `d k`; -/
def dmaEff (c : Dev nD) (d : Fin 31 → Dev nD) (k : Fin 31) : Eff (F := F) PUnit :=
  .enqueueDma (ownV c) (.remote (Dev.tc (d k)) (ownV c) (.dma (sendS k))) (.dma (recvS k)) (View.wordExact_bits rfl) (View.wordExact_bits rfl)
    ⟨⟨rfl, Or.inl rfl⟩, trivial⟩
/-- its wait for the copy coming here; -/
def recvEff (c : Dev nD) (k : Fin 31) : Eff (F := F) PUnit :=
  .waitDma2 (recvS k) (ownV c) (inV c k) (View.wordExact_bits rfl) (View.wordExact_bits rfl)
/-- its wait for its own copy. -/
def sendEff (c : Dev nD) (k : Fin 31) : Eff (F := F) PUnit :=
  .waitDma2 (sendS k) (ownV c) (ownV c) (View.wordExact_bits rfl) (View.wordExact_bits rfl)

/-- The steps, in order. -/
abbrev steps : List (Fin 31) := List.finRange 31

/-- The body after the copies have been waited for: the table read, the result stored, the own copies waited for. -/
def tailProg (c : Dev nD) (x : Vec F S256x256 .f32) : Prog (Eff (F := F)) PUnit :=
  .op (.load tM rT.toLoadRect (View.loadsAt_vmem h_S32x1x256)) fun t =>
  .op (.load oM rX.toLoadRect (View.loadsAt_vmem h_S256x256)) fun _ =>
  .op (.store oM rX (k0_pay4 (rankW c) (k0_pay3 x) t) Finset.univ (View.stores_vmem_bits_univ h_S256x256 rfl) (.inl rfl)) fun _ =>
  run (sendEff c) steps (.ret ⟨⟩)

/-- The body after the signals. -/
def midProg (c : Dev nD) (d : Fin 31 → Dev nD) : Prog (Eff (F := F)) PUnit :=
  .op (.load xM rX.toLoadRect (View.loadsAt_vmem h_S256x256)) fun x =>
  .op (.load tM (rOwn c).toLoadRect (View.loadsAt_vmem h_S1x1x256)) fun _ =>
  .op (.store tM (rOwn c) (k0_pay2 x) Finset.univ (View.stores_vmem_bits_univ h_S1x1x256 rfl) (.inl rfl)) fun _ =>
  .op (.semWait barS 31) fun _ =>
  run (dmaEff c d) steps (run (recvEff c) steps (tailProg c x))

/-- The body of device `c`, its signals to `d` and its copies to `d'`. -/
def bodyProg (c : Dev nD) (d d' : Fin 31 → Dev nD) : Prog (Eff (F := F)) PUnit := run (sigEff d) steps (midProg c d')

/-- The printed body. -/
abbrev printed : Prog (Eff (F := F)) PUnit :=
  cc0_body xM (Memref.isWhole_whole _) oM (Memref.isWhole_whole _) tM (Memref.isWhole_whole _) cc0_scratch1 cc0_scratch2

set_option maxRecDepth 65536 in
theorem printed_eq : printed (F := F) = .op .deviceId fun c => bodyProg c (sigDev c) (dmaDev c) := by
  rfl

end Cert.KernelIdeal.Scan

end
-- ==== Proof.Sums.lean ====
/-
# Sums over a range

A prefix of a list of blocks of equal length is some whole blocks and a part of the next one. These are the facts about sums that
carry a running sum kept per device, with the devices' totals added, to the running sum of the whole.
-/
module

public import Idealize.ShloMosaic.PureOps.Ideal

@[expose] public section

namespace Cert.Sums

variable {M : Type*} [AddCommMonoid M]

/-- A sum over the first `n` numbers of what is set to zero from `b` on is the sum over the first `b`. -/
theorem below (n b : ℕ) (hb : b ≤ n) (f : ℕ → M) : ∑ k : Fin n, (if k.val < b then f k.val else 0) = ∑ k ∈ Finset.range b, f k := by
  obtain ⟨d, rfl⟩ := Nat.exists_eq_add_of_le hb
  rw [← Finset.sum_range fun k => if k < b then f k else 0, Finset.sum_range_add]
  have h1 : ∑ k ∈ Finset.range b, (if k < b then f k else 0) = ∑ k ∈ Finset.range b, f k :=
    Finset.sum_congr rfl fun k hk => if_pos (Finset.mem_range.1 hk)
  have h2 : ∑ k ∈ Finset.range d, (if b + k < b then f (b + k) else 0) = 0 :=
    Finset.sum_eq_zero fun k _ => if_neg (by omega)
  rw [h1, h2, add_zero]

/-- A window of length `n + 1` ending at place `r ≤ n`, zero before the first place, sums the places up to `r`. -/
theorem window (n r : ℕ) (hr : r ≤ n) (f : ℕ → M) :
    ∑ k : Fin (n + 1), (if n ≤ r + k.val then f (r + k.val - n) else 0) = ∑ k ∈ Finset.range (r + 1), f k := by
  obtain ⟨d, rfl⟩ := Nat.exists_eq_add_of_le hr
  rw [← Finset.sum_range fun k => if r + d ≤ r + k then f (r + k - (r + d)) else 0, show r + d + 1 = d + (r + 1) by omega, Finset.sum_range_add]
  have h1 : ∑ k ∈ Finset.range d, (if r + d ≤ r + k then f (r + k - (r + d)) else 0) = 0 :=
    Finset.sum_eq_zero fun k hk => if_neg (by have := Finset.mem_range.1 hk; omega)
  have h2 : ∑ k ∈ Finset.range (r + 1), (if r + d ≤ r + (d + k) then f (r + (d + k) - (r + d)) else 0) = ∑ k ∈ Finset.range (r + 1), f k :=
    Finset.sum_congr rfl fun k _ => by rw [if_pos (by omega), show r + (d + k) - (r + d) = k by omega]
  rw [h1, h2, zero_add]

/-- The first `c` blocks of length `n`, block by block. -/
theorem blocks (n c : ℕ) (f : ℕ → M) :
    ∑ k ∈ Finset.range (c * n), f k = ∑ r ∈ Finset.range c, ∑ j ∈ Finset.range n, f (r * n + j) := by
  induction c with
  | zero => simp
  | succ c ih => rw [Nat.succ_mul, Finset.sum_range_add, ih, Finset.sum_range_succ]

/-- The running sum at place `i` of block `c`: the block's own running sum, and the totals of the blocks before it. -/
theorem prefix_eq (n c i : ℕ) (f : ℕ → M) :
    ∑ k ∈ Finset.range (c * n + i + 1), f k
      = (∑ k ∈ Finset.range (i + 1), f (c * n + k)) + ∑ r ∈ Finset.range c, ∑ j ∈ Finset.range n, f (r * n + j) := by
  rw [Nat.add_assoc, Finset.sum_range_add, blocks, add_comm]

/-- A left fold that adds to the initial value, over the numbers below `n`, is the sum. -/
theorem foldl_add (n : ℕ) (z : M) (f : Fin n → M) : (List.finRange n).foldl (fun r k => r + f k) z = z + ∑ k, f k := by
  rw [Fin.sum_univ_def]
  generalize List.finRange n = l
  induction l generalizing z with
  | nil => simp
  | cons a l ih => rw [List.foldl_cons, ih, List.map_cons, List.sum_cons, add_assoc]

end Cert.Sums

end
-- ==== Proof.Payloads.lean ====
/-
# What a device computes, element by element

Over the extended reals: the column sums of a block, the product with the lower triangle of ones as a running sum down each column,
and the addition of the totals of the devices of lower rank.
-/
module

public import proofs.«01_k».proof.Proof.KernelIdeal.Canon
public import proofs.«01_k».proof.Proof.Sums
public import Idealize.ShloMosaic.PureOps.Ideal.Laws
public import Idealize.ShloMosaic.Lib.WordCmp
public import Idealize.ShloMosaic.Lib.Pointwise

@[expose] public section

noncomputable section

namespace Cert.Value

open Cert.KernelIdeal Cert.KernelIdeal.Gen Cert.KernelIdeal.Scan
open Idealize.ShloMosaic

theorem toInt_small (n : ℕ) (h : n < 2 ^ 31) : (BitVec.ofNat 32 n).toInt = n := by
  rw [BitVec.toInt_eq_toNat_of_lt (by rw [BitVec.toNat_ofNat]; omega), BitVec.toNat_ofNat]
  omega

/-- Column `l` of an array of 256 columns, by row number; zero past the last row. -/
def col {n : ℕ} (x : (⟨2, ![n, 256]⟩ : Shape).Idx → EReal) (l : Fin 256) (j : ℕ) : EReal :=
  if h : j < n then x (ix2 ⟨j, h⟩ l) else 0

theorem col_val {n : ℕ} (x : (⟨2, ![n, 256]⟩ : Shape).Idx → EReal) (l : Fin 256) (j : Fin n) : x (ix2 j l) = col x l j.val := by
  unfold col; rw [dif_pos j.isLt]

/-- A block's row of totals holds its column sums. -/
theorem pay2_apply (x : FVec Ideal S256x256 .f32) (l : Fin 256) :
    k0_pay2 (F := Ideal) x (ix3 0 0 l) = ∑ j ∈ Finset.range 256, col x l j := by
  unfold k0_pay2 k0_pay1
  pointwise
  rw [Finset.sum_range]
  exact Finset.sum_congr rfl fun j _ => col_val x l j

/-- The triangle's entry, a one-bit word widened and read as a number, times an element. -/
theorem entry_mul (i k : ℕ) (hi : i < 256) (hk : k < 256) (y : EReal) :
    FloatOps.sitofp (F := Ideal) .f32 (BitVec.setWidth 32 (IntOp.cmpi .sge (BitVec.ofNat 32 i) (BitVec.ofNat 32 k))) * y = if k < i + 1 then y else 0 := by
  rw [WordCmp.cmpi_sge_eq, toInt_small i (by omega), toInt_small k (by omega)]
  by_cases h : k < i + 1
  · rw [if_pos h, decide_eq_true (by omega)]
    show ((((BitVec.setWidth 32 (BitVec.ofBool true)).toInt : ℤ) : ℝ) : EReal) * y = y
    rw [show (BitVec.setWidth 32 (BitVec.ofBool true)).toInt = 1 by decide]
    simp
  · rw [if_neg h, decide_eq_false (by omega)]
    show ((((BitVec.setWidth 32 (BitVec.ofBool false)).toInt : ℤ) : ℝ) : EReal) * y = 0
    rw [show (BitVec.setWidth 32 (BitVec.ofBool false)).toInt = 0 by decide]
    simp

/-- The product with the triangle is the running sum down each column. -/
theorem pay3_apply (x : FVec Ideal S256x256 .f32) (i l : Fin 256) :
    k0_pay3 (F := Ideal) x (ix2 i l) = ∑ k ∈ Finset.range (i.val + 1), col x l k := by
  rw [← Sums.below 256 (i.val + 1) i.isLt (col x l)]
  unfold k0_pay3 k0_pay1
  pointwise
  exact Finset.sum_congr rfl fun k _ => (entry_mul i.val k.val i.isLt k.isLt _).trans (by rw [← col_val])

theorem rankW_eq (c : Dev nD) : rankW c = BitVec.ofNat 32 c.val := by
  revert c; decide

/-- A total is kept where its device's rank is lower. -/
theorem select_rank (r c : ℕ) (hr : r < 32) (hc : c < 32) (y : EReal) :
    Scalar.select (IntOp.cmpi .slt (BitVec.ofNat 32 r) (BitVec.ofNat 32 c)) y 0 = if r < c then y else 0 := by
  rw [WordCmp.cmpi_slt_eq, toInt_small r (by omega), toInt_small c (by omega)]
  by_cases h : r < c
  · rw [if_pos h, decide_eq_true (by omega)]; rfl
  · rw [if_neg h, decide_eq_false (by omega)]; rfl

/-- The result: the running sum, and the totals of the devices of lower rank. -/
theorem pay4_apply (c : Dev nD) (v : FVec Ideal S256x256 .f32) (t : Vec Ideal S32x1x256 .f32) (T : ℕ → EReal) (i l : Fin 256)
    (hT : ∀ r : Fin 32, t (ix3 r 0 l) = T r.val) :
    k0_pay4 (F := Ideal) (rankW c) v t (ix2 i l) = v (ix2 i l) + ∑ r ∈ Finset.range c.val, T r := by
  rw [rankW_eq, ← Sums.below 32 c.val c.isLt.le T]
  unfold k0_pay4
  pointwise
  exact congrArg (v (ix2 i l) + ·) (Finset.sum_congr rfl fun r _ => (select_rank r.val c.val r.isLt c.isLt _).trans (by rw [← hT]))

end Cert.Value

end
-- ==== Proof.Reference.lean ====
/-
# The reference's running sum, element by element

A window of as many rows as the array has, ending at row `r`, padded above by zeros: over the extended reals the sum of the rows up
to `r`.
-/
module

public import proofs.«01_k».proof.Proof.Payloads
public import proofs.«01_k».proof.Proof.Gen.ReferenceIdeal.Run

@[expose] public section

noncomputable section

namespace Cert.Value

open Cert.ReferenceIdeal Cert.ReferenceIdeal.Gen
open Idealize.ShloMosaic

theorem zero_init : (broadcastInDim S_ ![] bcast_S_S_ (constant (F := Ideal) S_ .f32 0x00000000#32)) (Shape.Idx.first h_S_) = (0 : EReal) :=
  Ideal.ofBits_zero_f32

/-- The reference's result on the array `x`. -/
def cumsum (x : FVec Ideal S8192x256 .f32) : FVec Ideal S8192x256 .f32 :=
  Host.reduceWindowAdd ![8192, 1] ![1, 1] ![8191, 0] ![0, 0] x (broadcastInDim S_ ![] bcast_S_S_ (constant S_ .f32 0x00000000#32))
    reduceWindows_S8192x256_S8192x256_w8192s1p8191_0_w1s1p0_0 h_S_

/-- At row `r`, column `l` it is the sum of the column's rows up to `r`. -/
theorem cumsum_apply (x : FVec Ideal S8192x256 .f32) (r : Fin 8192) (l : Fin 256) :
    cumsum x (ix2 r l) = ∑ k ∈ Finset.range (r.val + 1), col x l k := by
  have hr := r.isLt
  unfold cumsum Host.reduceWindowAdd
  rw [zero_init, Ideal.hostReduceWindowAdd_def]
  unfold Ideal.hostReduceWindowAdd Host.reduceWindow
  dsimp only
  rw [Sums.foldl_add, zero_add, ← Sums.window 8191 r.val (by omega)]
  have h := Equiv.sum_comp (Shape.rowMajor ⟨2, ![8192, 1]⟩).symm fun w : (⟨2, ![8192, 1]⟩ : Shape).Idx =>
    if 8191 ≤ r.val + (w 0).val then col x l (r.val + (w 0).val - 8191) else 0
  rw [ValueIdx.sum_idx2] at h
  refine Eq.trans (Finset.sum_congr rfl fun n _ => ?_) (h.trans (Finset.sum_congr rfl fun k _ => ?_))
  · have hw0 : ((Shape.rowMajor ⟨2, ![8192, 1]⟩).symm n 0).val < 8192 := Fin.isLt _
    have hw1 : ((Shape.rowMajor ⟨2, ![8192, 1]⟩).symm n 1).val < 1 := Fin.isLt _
    by_cases hp : 8191 ≤ r.val + ((Shape.rowMajor ⟨2, ![8192, 1]⟩).symm n 0).val
    · rw [dif_pos fun a => ?_, if_pos hp]
      · unfold col
        rw [dif_pos (by omega)]
        refine congrArg x (funext fun a => ?_)
        match a with
        | ⟨0, _⟩ => exact Fin.ext (show r.val * 1 + ((Shape.rowMajor ⟨2, ![8192, 1]⟩).symm n 0).val - 8191 = r.val + ((Shape.rowMajor ⟨2, ![8192, 1]⟩).symm n 0).val - 8191 by omega)
        | ⟨1, _⟩ => exact Fin.ext (show l.val * 1 + ((Shape.rowMajor ⟨2, ![8192, 1]⟩).symm n 1).val - 0 = l.val by omega)
      · have hl := l.isLt
        match a with
        | ⟨0, _⟩ => exact (show 8191 ≤ r.val * 1 + ((Shape.rowMajor ⟨2, ![8192, 1]⟩).symm n 0).val ∧ r.val * 1 + ((Shape.rowMajor ⟨2, ![8192, 1]⟩).symm n 0).val - 8191 < 8192 by omega)
        | ⟨1, _⟩ => exact (show 0 ≤ l.val * 1 + ((Shape.rowMajor ⟨2, ![8192, 1]⟩).symm n 1).val ∧ l.val * 1 + ((Shape.rowMajor ⟨2, ![8192, 1]⟩).symm n 1).val - 0 < 256 by omega)
    · rw [dif_neg fun hin => ?_, if_neg hp]
      exact hp (by have : 8191 ≤ r.val * 1 + ((Shape.rowMajor ⟨2, ![8192, 1]⟩).symm n 0).val := (hin 0).1; omega)
  · exact Fin.sum_univ_one _

end Cert.Value

end
-- ==== Proof.KernelIdeal.Proto.lean ====
/-
# The protocol: cells, rows, contents, schedule

Every device keeps a table with one row per device. It stores the column totals of its block into its own row and copies that row to
the same row of every other device's table, so that at the end all tables hold the same contents, `tot`.

Semaphores. Before a device writes into another's table the other one has said that it is running: each device signals every other
device's barrier semaphore once and waits for thirty-one units on its own. With its signal to device `d` a device hands over the row
of its own table that belongs to `d`. A copy takes a thirty-second of the share of the sender's own row, which comes back with the
sender's wait, and the receiver's wait for it brings the row that was handed out, now holding the sender's totals.
-/
module

public import proofs.«01_k».proof.Proof.KernelIdeal.Canon
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.ValueKit.Geometry
public import Idealize.ShloMosaic.Lib.ShareLeaves
public import Idealize.ShloMosaic.Lib.ViewIndex
public import Idealize.ShloMosaic.Lib.Tactic

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra: the pipeline's copy, and the protocol's with duties named by steps -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Around the mesh, all at once -/

theorem shift_injective (c : Dev nD) : Function.Injective (shift c) := by
  intro a b h
  have h1 : c.val < 32 := c.isLt
  have h2 := a.isLt
  have h3 := b.isLt
  have h4 := congrArg Fin.val h
  simp only [shift] at h4
  exact Fin.ext (by omega)

/-- What comes `k + 1` places back comes `31 - k` places further round. -/
theorem back_rev (c : Dev nD) (k : Fin 31) : back c (Fin.rev k) = shift c k := by
  have h1 : c.val < 32 := c.isLt
  have h2 := k.isLt
  refine Fin.ext ?_
  simp only [shift, back, Fin.val_rev]
  omega
theorem shift_rev (c : Dev nD) (k : Fin 31) : shift c (Fin.rev k) = back c k := by
  rw [← back_rev, Fin.rev_rev]

/-- The other devices are those the steps go to. -/
theorem erase_eq (c : Dev nD) : Finset.univ.erase c = Finset.univ.map ⟨shift c, shift_injective c⟩ := by
  ext d
  simp only [Finset.mem_erase, Finset.mem_univ, and_true, Finset.mem_map, true_and, Function.Embedding.coeFn_mk]
  have h1 : c.val < 32 := c.isLt
  have h2 : d.val < 32 := d.isLt
  constructor
  · intro h
    have h3 : d.val ≠ c.val := fun e => h (Fin.ext e)
    refine ⟨⟨(d.val + 31 - c.val) % 32, by omega⟩, Fin.ext ?_⟩
    simp only [shift]
    omega
  · rintro ⟨k, rfl⟩ e
    have h3 := k.isLt
    have h4 := congrArg Fin.val e
    simp only [shift] at h4
    omega

/-- The steps, listed. -/
theorem steps_univ : (Finset.univ : Finset (Fin 31)) = steps.toFinset := by
  ext k; simp [steps]
theorem steps_nodup : steps.Nodup := List.nodup_finRange 31

section Sep
variable {M : Type} [URA M]

/-- Over all devices: this one, and the one of each step; -/
theorem bigSep_shift (c : Dev nD) (Φ : Dev nD → sProp M) :
    bigSep Finset.univ Φ = iprop(Φ c ∗ bigSep Finset.univ fun k : Fin 31 => Φ (shift c k)) := by
  rw [bigSep_univ_at Φ c, erase_eq, bigSep_map]; rfl
/-- the steps, taken from the last to the first; -/
theorem bigSep_rev (Φ : Fin 31 → sProp M) : bigSep Finset.univ Φ = bigSep Finset.univ fun k => Φ (Fin.rev k) :=
  bigSep_univ_equiv Fin.revPerm Φ
/-- and the one each step comes from. -/
theorem bigSep_back (c : Dev nD) (Φ : Dev nD → sProp M) :
    bigSep Finset.univ Φ = iprop(Φ c ∗ bigSep Finset.univ fun k : Fin 31 => Φ (back c k)) := by
  rw [bigSep_shift c, bigSep_rev fun k => Φ (shift c k)]
  simp only [shift_rev]
/-- The steps all at once are the steps in a row. -/
theorem bigSep_steps (Φ : Fin 31 → sProp M) : bigSep Finset.univ Φ = bigSepL steps Φ :=
  bigSep_univ_eq_bigSepL steps steps_univ steps_nodup Φ

end Sep

/-! ## The cells -/

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- A device's cells: its barrier, its sends, its receipts. -/
abbrev CellIx : Type := Unit ⊕ (Fin 31 ⊕ Fin 31)
/-- The kernel's own semaphores: the sends and the receipts. -/
abbrev osem : Fin 31 ⊕ Fin 31 → SemLoc sig := fun | .inl k => .dma (sendS k) | .inr k => .dma (recvS k)
abbrev csem : CellIx → SemLoc sig := fun | .inl _ => .reg barS | .inr j => osem j
abbrev kcell (cj : Dev nD × CellIx) : GSem nD τ sig := ((cj.1 : Thread nD τ), csem cj.2)

/-- Which part a semaphore plays. -/
inductive Role where
  | bar | send (k : Fin 31) | recv (k : Fin 31) | other
  deriving DecidableEq

set_option backward.proofsInPublic true in
def roleOf (n : ℕ) : Role :=
  if 33 ≤ n then .recv ⟨(n - 33) % 31, Nat.mod_lt _ (by decide)⟩
  else if 2 ≤ n then .send ⟨(n - 2) % 31, Nat.mod_lt _ (by decide)⟩ else .other
set_option backward.proofsInPublic true in
def role : SemLoc sig → Role
  | .reg s => if s = barS then .bar else .other
  | .dma q => roleOf q.val

theorem role_bar : role (.reg barS) = .bar := by
  show (if barS = barS then Role.bar else Role.other) = .bar
  exact if_pos rfl
theorem role_recv (k : Fin 31) : role (.dma (recvS k)) = .recv k := by
  have h := k.isLt
  show roleOf (33 + k.val) = _
  unfold roleOf
  rw [if_pos (show 33 ≤ 33 + k.val by omega)]
  exact congrArg Role.recv (Fin.ext (show (33 + k.val - 33) % 31 = k.val by omega))
theorem role_send (k : Fin 31) : role (.dma (sendS k)) = .send k := by
  have h := k.isLt
  show roleOf (2 + k.val) = _
  unfold roleOf
  rw [if_neg (show ¬ 33 ≤ 2 + k.val by omega), if_pos (show 2 ≤ 2 + k.val by omega)]
  exact congrArg Role.send (Fin.ext (show (2 + k.val - 2) % 31 = k.val by omega))

theorem kcell_injective : Function.Injective (kcell : Dev nD × CellIx → GSem nD τ sig) := by
  rintro ⟨c, j⟩ ⟨c', j'⟩ h
  have h1 : c = c' := congrArg (fun g : GSem nD τ sig => g.1.1) h
  have h2 : role (csem j) = role (csem j') := congrArg (fun g : GSem nD τ sig => role g.2) h
  subst h1
  congr 1
  rcases j with _ | (k | k) <;> rcases j' with _ | (k' | k') <;> simp only [csem, osem, role_bar, role_send, role_recv] at h2 <;> cases h2 <;> rfl

/-- The credit of one row's copy. -/
abbrev N : ℕ := (ownV (0 : Dev nD)).view.dmaCredit
theorem N_pos : 0 < N := View.dmaCredit_pos _ (by decide)
theorem credit_own (c : Dev nD) : (ownV c).view.dmaCredit = N := rfl

/-! ## Rows -/

/-- The elements of row `r`. -/
abbrev rowSet (r : Dev nD) : Finset S32x1x256.Idx := (ownV r).view.set

theorem mem_unit_row {r : Dev nD} {off : Fin 3 → ℕ} {inb : ∀ a, off a + S1x1x256.size a ≤ S32x1x256.size a} (h : off = ![r.val, 0, 0]) (i : S32x1x256.Idx) :
    i ∈ (Rect.unit (s := S32x1x256) off S1x1x256.size inb).set ↔ (i 0).val = r.val := by
  subst h
  rw [Rect.mem_set_unit]
  have h1 : (i 1).val < 1 := (i 1).isLt
  have h2 : (i 2).val < 256 := (i 2).isLt
  constructor
  · intro h
    obtain ⟨ha, hb⟩ := h 0
    have ha' : r.val ≤ (i 0).val := ha
    have hb' : (i 0).val < r.val + 1 := hb
    omega
  · intro h a
    match a with
    | ⟨0, _⟩ => exact ⟨(show r.val ≤ (i 0).val by omega), (show (i 0).val < r.val + 1 by omega)⟩
    | ⟨1, _⟩ => exact ⟨Nat.zero_le _, (show (i 1).val < 0 + 1 by omega)⟩
    | ⟨2, _⟩ => exact ⟨Nat.zero_le _, (show (i 2).val < 0 + 256 by omega)⟩

theorem mem_row (r : Dev nD) (i : S32x1x256.Idx) : i ∈ rowSet r ↔ (i 0).val = r.val :=
  ValueKit.mem_set_slice_whole_iff cc0_scratch0 _ i (mem_unit_row (k0_off2_eq r) i)
/-- The row the body stores into is its own. -/
theorem access_own (c : Dev nD) : (tM.access (rOwn c)).set = rowSet c := by
  ext i
  exact (ValueKit.mem_set_slice_whole_iff cc0_scratch0 _ i (mem_unit_row (k0_off1_eq c) i)).trans (mem_row c i).symm

theorem rows_disjoint (a b : Dev nD) (h : a ≠ b) : Disjoint (rowSet a) (rowSet b) :=
  Finset.disjoint_left.mpr fun i ha hb => h (Fin.ext (((mem_row a i).mp ha).symm.trans ((mem_row b i).mp hb)))
theorem rows_cover : Finset.univ.biUnion rowSet = Finset.univ := by
  ext i
  simp only [Finset.mem_biUnion, Finset.mem_univ, true_and, iff_true]
  exact ⟨⟨(i 0).val, (i 0).isLt⟩, (mem_row _ i).mpr rfl⟩

/-! ## Contents -/

abbrev Table : Type := (cc0_scratch0 : Ref sig .tc).ty.Contents (Elt F)

/-- The staged block of device `c`. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- An index of the table, inside its row. -/
def inRow (i : S32x1x256.Idx) : S1x1x256.Idx := fun a => match a with
  | ⟨0, _⟩ => ⟨0, Nat.one_pos⟩
  | ⟨1, _⟩ => ⟨0, Nat.one_pos⟩
  | ⟨2, _⟩ => ⟨(i 2).val, (i 2).isLt⟩

/-- The finished table: row `r` holds the column totals of device `r`'s block. -/
def tot : Table (F := F) := fun i => k0_pay2 (xstg m ρ (⟨(i 0).val, (i 0).isLt⟩ : Dev nD)) (inRow i)

theorem tot_emb (c : Dev nD) {off : Fin 3 → ℕ} {inb : ∀ a, off a + S1x1x256.size a ≤ S32x1x256.size a} (h : off = ![c.val, 0, 0])
    (x : S1x1x256.Idx) : tot m ρ ((Rect.unit (s := S32x1x256) off S1x1x256.size inb).emb x) = k0_pay2 (xstg m ρ c) x := by
  subst h
  have hx0 : (x 0).val < 1 := (x 0).isLt
  have hx1 : (x 1).val < 1 := (x 1).isLt
  have e0 : (((Rect.unit (s := S32x1x256) ![c.val, 0, 0] S1x1x256.size inb).emb x 0 : Fin _) : ℕ) = c.val :=
    (ValueKit.rect_emb_unit_val (s := S32x1x256) ![c.val, 0, 0] S1x1x256.size inb x 0).trans (show c.val + (x 0).val = c.val by omega)
  have e2 : (((Rect.unit (s := S32x1x256) ![c.val, 0, 0] S1x1x256.size inb).emb x 2 : Fin _) : ℕ) = (x 2).val :=
    (ValueKit.rect_emb_unit_val (s := S32x1x256) ![c.val, 0, 0] S1x1x256.size inb x 2).trans (show 0 + (x 2).val = (x 2).val by omega)
  unfold tot
  have hd : (⟨(((Rect.unit (s := S32x1x256) ![c.val, 0, 0] S1x1x256.size inb).emb x 0 : Fin _) : ℕ), (((Rect.unit (s := S32x1x256) ![c.val, 0, 0] S1x1x256.size inb).emb x 0).isLt)⟩ : Dev nD) = c := Fin.ext e0
  rw [hd]
  congr 1
  funext a
  match a with
  | ⟨0, _⟩ => exact Fin.ext (show 0 = (x 0).val by omega)
  | ⟨1, _⟩ => exact Fin.ext (show 0 = (x 1).val by omega)
  | ⟨2, _⟩ => exact Fin.ext e2

/-- Storing a device's totals through its own row leaves the row as in the finished table, -/
theorem store_row (c : Dev nD) (f : Table (F := F)) (i : S32x1x256.Idx) (hi : i ∈ rowSet c) :
    (tM.access (rOwn c)).write (Elt F) f (k0_pay2 (xstg m ρ c)) Finset.univ i = tot m ρ i := by
  rw [← access_own] at hi
  obtain ⟨x, rfl⟩ := View.exists_of_mem_set_slice hi
  exact (View.write_emb_of_mem (v := tM.access (rOwn c)) f _ (Finset.mem_univ x)).trans (tot_emb m ρ c (k0_off1_eq c) x).symm
omit [FloatOps F] in
/-- and copying a row over writes what was read. -/
theorem copy_row (c : Dev nD) (f g : Table (F := F)) (i : S32x1x256.Idx) (hi : i ∈ rowSet c) :
    (ownV c).view.write (Elt F) f ((ownV c).view.read (Elt F) g) Finset.univ i = g i := by
  rw [View.write_read_eq_piecewise, View.setOn_univ, Finset.piecewise_eq_of_mem _ _ _ hi]

/-- Row `r` of device `d`'s table, at a share. -/
def rowPts (q : PosShare TreeShare) (d r : Dev nD) (f : Table (F := F)) : sProp 𝕄 :=
  tM.view.loc (d : Thread nD τ) ↦[rowSet r]{q} f

omit [FloatOps F] in
instance rowPts_storable (q : PosShare TreeShare) (d r : Dev nD) (f : Table (F := F)) : BI.Storable (upEmb : UEmb _ 𝕄) (rowPts (F := F) q d r f) := by
  unfold rowPts; infer_instance

omit [FloatOps F] in
/-- A table is its rows; -/
theorem table_rows (q : PosShare TreeShare) (d : Dev nD) (f : Table (F := F)) :
    (((d : Thread nD τ).loc cc0_scratch0) ↦{q} f : sProp 𝕄) = bigSep Finset.univ fun r : Dev nD => rowPts q d r f := by
  have h := pointsTo_biUnion (Ix := Unit) (Name := ℕ) (U := UU) (Lvl := ℕ) (ℓ := tM.view.loc (d : Thread nD τ)) (q := q) (f := f)
    Finset.univ rowSet (fun a _ b _ h => rows_disjoint a b h)
  rw [rows_cover] at h
  exact h
omit [FloatOps F] in
/-- a row is its thirty-two shares: one for each step and one to keep. -/
theorem row_shares (d r : Dev nD) (f : Table (F := F)) :
    rowPts fullShare d r f = bigSep Finset.univ fun j : Dev nD => rowPts (F := F) (leaf 5 fullShare j) d r f :=
  ShareLeaves.pointsTo_leaves _ _ 5 fullShare

/-- The share that stays at home, and the one that step `k`'s copy takes along. -/
abbrev keepQ : PosShare TreeShare := leaf 5 fullShare (0 : Fin (2 ^ 5))
abbrev stepQ (k : Fin 31) : PosShare TreeShare := leaf 5 fullShare (shift (0 : Dev nD) k)

omit [FloatOps F] in
theorem row_split (d r : Dev nD) (f : Table (F := F)) :
    rowPts fullShare d r f = iprop(rowPts keepQ d r f ∗ bigSep Finset.univ fun k : Fin 31 => rowPts (stepQ k) d r f) := by
  rw [row_shares, bigSep_shift (0 : Dev nD) fun j => rowPts (leaf 5 fullShare j) d r f]

/-! ## The schedule -/

/-- What device `c`'s barrier gets with the signal that came at step `k`: row `c` of the signaller's table. -/
def barPay (c : Dev nD) (k : Fin 31) : sProp 𝕄 := iprop(∃ f, rowPts (F := F) fullShare (back c k) c f)
/-- What the receipt of step `k` brings: the sender's row, finished. -/
def recvPay (c : Dev nD) (k : Fin 31) : sProp 𝕄 := rowPts fullShare c (back c k) (tot m ρ)
/-- What the wait for the own copy of step `k` brings back. -/
def sendPay (c : Dev nD) (k : Fin 31) : sProp 𝕄 := rowPts (stepQ k) c c (tot m ρ)

/-- One round: a barrier cell has one duty per step, of one unit; the others one duty, of a row's credit. -/
def rd : Rounds.Schedule (GSem nD τ sig) (Fin 31) 𝕄 where
  duties g r := if r = 0 ∧ g.1.2 = .tc then
      (match role g.2 with | .bar => Finset.univ | .send _ => {0} | .recv _ => {0} | .other => ∅) else ∅
  unitless _ := False
  amount g _ _ := if role g.2 = .bar then 1 else N
  payload g _ d := match role g.2 with
    | .bar => barPay g.1.1 d
    | .send k => sendPay m ρ g.1.1 k
    | .recv k => recvPay m ρ g.1.1 k
    | .other => iprop(emp)
  amount_pos g _ _ _ := by
    by_cases h : role g.2 = .bar
    · rw [if_pos h]; exact Nat.one_pos
    · rw [if_neg h]; exact N_pos

instance rd_payload_storable (g : GSem nD τ sig) (r : ℕ) (d : Fin 31) : BI.Storable (upEmb : UEmb _ 𝕄) ((rd (F := F) m ρ).payload g r d) := by
  show BI.Storable upEmb (match role g.2 with
    | .bar => barPay g.1.1 d | .send k => sendPay m ρ g.1.1 k | .recv k => recvPay m ρ g.1.1 k | .other => iprop(emp))
  unfold barPay recvPay sendPay
  split <;> infer_instance

section Sched
variable (c : Dev nD) (k : Fin 31)

theorem duties_bar : (rd (F := F) m ρ).duties (barCell c) 0 = Finset.univ := by
  dsimp only [rd]; rw [if_pos ⟨rfl, rfl⟩, role_bar]
theorem duties_send : (rd (F := F) m ρ).duties (sendCell c k) 0 = {0} := by
  dsimp only [rd]; rw [if_pos ⟨rfl, rfl⟩, role_send]
theorem duties_recv : (rd (F := F) m ρ).duties (recvCell c k) 0 = {0} := by
  dsimp only [rd]; rw [if_pos ⟨rfl, rfl⟩, role_recv]
theorem duties_later (g : GSem nD τ sig) : ∀ r, 0 + 1 ≤ r → (rd (F := F) m ρ).duties g r = ∅ :=
  fun r hr => by dsimp only [rd]; rw [if_neg fun h => by omega]

theorem amount_bar (d : Fin 31) : (rd (F := F) m ρ).amount (barCell c) 0 d = 1 := by dsimp only [rd]; rw [role_bar]; exact if_pos rfl
theorem amount_send (d : Fin 31) : (rd (F := F) m ρ).amount (sendCell c k) 0 d = N := by
  dsimp only [rd]; rw [role_send]; exact if_neg fun h => by cases h
theorem amount_recv (d : Fin 31) : (rd (F := F) m ρ).amount (recvCell c k) 0 d = N := by
  dsimp only [rd]; rw [role_recv]; exact if_neg fun h => by cases h

theorem expect_bar : (rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul, Nat.mul_one]
theorem expect_send : (rd (F := F) m ρ).expect (sendCell c k) 0 = N := by
  unfold Schedule.expect Schedule.amountOf; rw [duties_send, Finset.sum_singleton, amount_send]
theorem expect_recv : (rd (F := F) m ρ).expect (recvCell c k) 0 = N := by
  unfold Schedule.expect Schedule.amountOf; rw [duties_recv, Finset.sum_singleton, amount_recv]

theorem payload_bar (d : Fin 31) : (rd (F := F) m ρ).payload (barCell c) 0 d = barPay c d := by dsimp only [rd]; rw [role_bar]
theorem payload_send (d : Fin 31) : (rd (F := F) m ρ).payload (sendCell c k) 0 d = sendPay m ρ c k := by dsimp only [rd]; rw [role_send]
theorem payload_recv (d : Fin 31) : (rd (F := F) m ρ).payload (recvCell c k) 0 d = recvPay m ρ c k := by dsimp only [rd]; rw [role_recv]

/-- All of a round's payloads. -/
theorem rest_bar : bigSep ((rd (F := F) m ρ).duties (barCell c) 0 \ ∅) (fun d => (rd (F := F) m ρ).payload (barCell c) 0 d)
    = bigSep Finset.univ fun d : Fin 31 => barPay (F := F) c d := by
  rw [Finset.sdiff_empty, duties_bar]; exact bigSep_congr fun d _ => payload_bar m ρ c d
theorem rest_send : bigSep ((rd (F := F) m ρ).duties (sendCell c k) 0 \ ∅) (fun d => (rd (F := F) m ρ).payload (sendCell c k) 0 d) = sendPay m ρ c k := by
  rw [Finset.sdiff_empty, duties_send, bigSep_singleton, payload_send]
theorem rest_recv : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What a device owes, and the levels -/

/-- Still to be paid at the steps of a list: receipts, -/
def owedRecv (c : Dev nD) (l : List (Fin 31)) : CellTallies nD τ sig Unit := (l.map fun k => tallyAt (recvCell (shift c k) k) () N).sum
/-- signals. -/
def owedBar (c : Dev nD) (l : List (Fin 31)) : CellTallies nD τ sig Unit := (l.map fun k => tallyAt (barCell (shift c k)) () 1).sum
theorem owedRecv_cons (c : Dev nD) (k : Fin 31) (l : List (Fin 31)) :
    owedRecv c (k :: l) = owedRecv c l + tallyAt (recvCell (shift c k) k) () N := by
  unfold owedRecv; rw [List.map_cons, List.sum_cons, add_comm]
theorem owedBar_cons (c : Dev nD) (k : Fin 31) (l : List (Fin 31)) (O : CellTallies nD τ sig Unit) :
    O + owedBar c (k :: l) = (O + owedBar c l) + tallyAt (barCell (shift c k)) () 1 := by
  unfold owedBar; rw [List.map_cons, List.sum_cons, add_comm (tallyAt _ _ _), ← add_assoc]
/-- At launch a device owes all its receipts and all its signals. -/
def O₀ (c : Dev nD) : CellTallies nD τ sig Unit := owedRecv c steps + owedBar c steps

def L (g : GSem nD τ sig) : Finset Unit := if g.1.2 = .tc then {()} else ∅
/-- Barriers are below receipts, everything else is below both. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_pos_at (f : Fin 31 → GSem nD τ sig) (n : ℕ) (l : List (Fin 31)) {g : GSem nD τ sig} {u : Unit}
    (h : 0 < (l.map fun k => (tallyAt (f k) () n : CellTallies nD τ sig Unit)).sum g u) : ∃ k, g = f k := by
  induction l with
  | nil => exact absurd h (Nat.lt_irrefl 0)
  | cons k l ih =>
    rw [List.map_cons, List.sum_cons, Pi.add_apply, Finsupp.add_apply, tallyAt_apply] at h
    by_cases hg : g = f k ∧ u = ()
    · exact ⟨k, hg.1⟩
    · rw [if_neg hg, Nat.zero_add] at h; exact ih h

theorem owedRecv_pos {c : Dev nD} {l : List (Fin 31)} {g : GSem nD τ sig} {u : Unit} (h : 0 < owedRecv c l g u) : ∃ d k, g = recvCell d k := by
  obtain ⟨k, e⟩ := sum_pos_at (fun k => recvCell (shift c k) k) N l h
  exact ⟨_, k, e⟩
theorem O₀_pos {c : Dev nD} {g : GSem nD τ sig} {u : Unit} (h : 0 < O₀ c g u) : (∃ d k, g = recvCell d k) ∨ ∃ d, g = barCell d := by
  unfold O₀ at h
  rw [Pi.add_apply, Finsupp.add_apply] at h
  by_cases hr : 0 < owedRecv c steps g u
  · exact .inl (owedRecv_pos hr)
  · obtain ⟨k, e⟩ := sum_pos_at (fun k => barCell (shift c k)) 1 steps (show 0 < owedBar c steps g u by omega)
    exact .inr ⟨_, e⟩

theorem lv_bar (c : Dev nD) (u : Unit) : lv (barCell c) u = 1 := by unfold lv; rw [role_bar]
theorem lv_recv (c : Dev nD) (k : Fin 31) (u : Unit) : lv (recvCell c k) u = 2 := by unfold lv; rw [role_recv]

omit [FloatOps F] in
/-- The staging waits are allowed whatever is owed of the protocol. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; unfold lv; rw [hq])
      (fun g u hg => by
        rcases O₀_pos hg with ⟨d, k, rfl⟩ | ⟨d, rfl⟩
        · rw [lv_recv]; decide
        · rw [lv_bar]; decide)
  · rw [MayWait_zero]; iintro -; iempintro

omit [FloatOps F] in
/-- At its barrier wait a device owes receipts only. -/
theorem mayWait_bar (c : Dev nD) (l : List (Fin 31)) :
    (levAts L lv : sProp 𝕄) ⊢ MayWait (c : Thread nD τ) (.reg barS) () (owedRecv c l) :=
  MayOwe.of_cut (L := L) (lev := lv) 1 (fun p hp => by rw [Finset.mem_singleton.mp hp, L_tc]; exact Finset.mem_singleton_self _)
    (fun g u hg => by obtain ⟨d, k, rfl⟩ := owedRecv_pos hg; exact Finset.mem_singleton_self _)
    (fun p hp => by rw [Finset.mem_singleton.mp hp]; exact (lv_bar c _).le)
    (fun g u hg => by obtain ⟨d, k, rfl⟩ := owedRecv_pos hg; rw [lv_recv]; decide)

end Cert.KernelIdeal.Scan

end
-- ==== Proof.KernelIdeal.Phases.lean ====
/-
# The four runs of steps

One induction over the list of steps (`wp_run`) serves all four runs; what each of them needs besides is what one of its steps does to
the ghost state: a signal pays a barrier duty with a row of the table, a copy pays its two duties with a share of the own row and
the row it overwrites, a wait takes a payload and closes its cell.
-/
module

public import proofs.«01_k».proof.Proof.KernelIdeal.Proto

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells' records -/

/-- Every cell's invariant, under the names `K`, and that every cell's round 0 has begun. -/
def records (K : Dev nD × CellIx → ℕ) : sProp 𝕄 :=
  iprop((bigSep Finset.univ fun cj : Dev nD × CellIx => cellInv ER (rd m ρ) (K cj) (kcell cj))
    ∗ bigSep Finset.univ fun cj : Dev nD × CellIx => reached ER (kcell cj) 0)

instance records_persistent (K : Dev nD × CellIx → ℕ) : BI.Persistent (records m ρ K) := by unfold records; infer_instance

variable (K : Dev nD × CellIx → ℕ)

theorem inv_at (cj : Dev nD × CellIx) : records m ρ K ⊢ cellInv ER (rd m ρ) (K cj) (kcell cj) :=
  sep_elim_left.trans (bigSep_elim (Finset.mem_univ cj))
theorem reached_at (cj : Dev nD × CellIx) : records m ρ K ⊢ reached ER (kcell cj) 0 :=
  sep_elim_right.trans (bigSep_elim (Finset.mem_univ cj))

/-! ## A run, by its step -/

/-- What a program of device `c` has to be shown. -/
abbrev wpc (c : Dev nD) (p : Prog (Eff (F := F)) PUnit) (Q : PUnit → sProp 𝕄) : sProp 𝕄 :=
  wp frame (wpE (defs₀ (F := F)) 𝒱₀ (c : Thread nD τ) none) Set.univ p Q

/-- If each step turns `A k` into `B k`, the state going from `S` of the steps from it on to `S` of the steps after it, a run of steps
    turns all the `A` into all the `B`. -/
theorem wp_run (c : Dev nD) (eff : Fin 31 → Eff (F := F) PUnit) (Q : PUnit → sProp 𝕄) (R : sProp 𝕄) [BI.Persistent R]
    (A B : Fin 31 → sProp 𝕄) (S : List (Fin 31) → sProp 𝕄)
    (step : ∀ k l (p : Prog (Eff (F := F)) PUnit),
      iprop(R ∗ A k ∗ S (k :: l)) ⊢ iprop(((B k ∗ S l) -∗ wpc c p Q) -∗ wpc c (.op (eff k) fun _ => p) Q)) :
    ∀ (l : List (Fin 31)) (rest : Prog (Eff (F := F)) PUnit),
      iprop(R ∗ bigSepL l A ∗ S l) ⊢ iprop(((bigSepL l B ∗ S []) -∗ wpc c rest Q) -∗ wpc c (run eff l rest) Q)
  | [], rest => by
    rw [run_nil]
    iintro ⟨#HR, HA, HS⟩ Hk
    iapply Hk
    isplitr; · rw [bigSepL_nil]; iempintro
    iexact HS
  | k :: l, rest => by
    rw [run_cons]
    simp only [bigSepL_cons']
    iintro ⟨#HR, ⟨HA, HAs⟩, HS⟩ Hk
    iapply (step k l (run eff l rest)) $$ [HA HS]
    · isplitr; · iexact HR
      isplitl [HA] <;> iassumption
    iintro ⟨HB, HS⟩
    iapply (wp_run c eff Q R A B S step l rest) $$ [HAs HS]
    · isplitr; · iexact HR
      isplitl [HAs] <;> iassumption
    iintro ⟨HBs, HS⟩
    iapply Hk
    isplitl [HB HBs]
    · isplitl [HB] <;> iassumption
    iexact HS

/-! ## Signals -/

/-- What the signal of step `k` needs: the duty of the barrier it goes to, and the row it hands over. -/
def sigIn (c : Dev nD) (k : Fin 31) : sProp 𝕄 :=
  iprop(dutyTok ER (barCell (shift c k)) 0 k ∗ ∃ f, rowPts (F := F) fullShare c (shift c k) f)

theorem wp_signals (c : Dev nD) (W : Waits sig Unit) (O : CellTallies nD τ sig Unit) (l : List (Fin 31)) (rest : Prog (Eff (F := F)) PUnit)
    (Q : PUnit → sProp 𝕄) :
    iprop(records m ρ K ∗ bigSepL l (sigIn c) ∗ owes (c : Thread nD τ) (O + owedBar c l) W)
      ⊢ iprop(((bigSepL l (fun _ => iprop(emp)) ∗ owes (c : Thread nD τ) (O + owedBar c []) W) -∗ wpc c rest Q) -∗ wpc c (run (sigEff (shift c)) l rest) Q) :=
  wp_run c (sigEff (shift c)) Q (records m ρ K) (sigIn c) (fun _ => iprop(emp)) (fun l => owes (c : Thread nD τ) (O + owedBar c l) W)
    (fun k l p => by
      unfold sigIn sigEff
      iintro ⟨#HR, ⟨Ht, Hrow⟩, HO⟩ Hk
      ihave #HI := (inv_at m ρ K (shift c k, .inl ())) $$ HR
      ihave #Hr := (reached_at m ρ K (shift c k, .inl ())) $$ HR
      iapply (Rounds.wp_signal 𝒱₀ ER (rd m ρ) (c : Thread nD τ) none (dst := (shift c k : Thread nD τ)) (κ := K (shift c k, .inl ()))
        (d := k) (by rw [duties_bar]; exact Finset.mem_univ _) ((amount_bar m ρ (shift c k) k).trans (by decide)) () (O + owedBar c l)
        (owedBar_cons c k l O)) $$ [Ht Hrow HO]
      · isplitr; · iexact HI
        isplitl [HO]; · iexact HO
        isplitl [Ht]; · iexact Ht
        isplitl [Hrow]
        · rw [payload_bar]; unfold barPay; rw [back_shift]; iexact Hrow
        iexact Hr
      iintro HO
      iapply Hk
      isplitr; · iempintro
      iexact HO)
    l rest

/-! ## Copies -/

/-- What the copy of step `k` needs: a share of the own row, the row it overwrites, its two duties. -/
def dmaIn (c : Dev nD) (k : Fin 31) : sProp 𝕄 :=
  iprop(rowPts (stepQ k) c c (tot m ρ) ∗ (∃ f, rowPts (F := F) fullShare (shift c k) c f)
    ∗ dutyTok ER (sendCell c k) 0 (0 : Fin 31) ∗ dutyTok ER (recvCell (shift c k) k) 0 (0 : Fin 31))

theorem wp_copies (c : Dev nD) (W : Waits sig Unit) (l : List (Fin 31)) (rest : Prog (Eff (F := F)) PUnit) (Q : PUnit → sProp 𝕄) :
    iprop(records m ρ K ∗ bigSepL l (dmaIn m ρ c) ∗ owes (c : Thread nD τ) (owedRecv c l) W)
      ⊢ iprop(((bigSepL l (fun k => cred (tallyAt (sendCell c k) () N)) ∗ owes (c : Thread nD τ) (owedRecv c []) W) -∗ wpc c rest Q)
          -∗ wpc c (run (dmaEff c (shift c)) l rest) Q) :=
  wp_run c (dmaEff c (shift c)) Q (records m ρ K) (dmaIn m ρ c) (fun k => cred (tallyAt (sendCell c k) () N))
    (fun l => owes (c : Thread nD τ) (owedRecv c l) W)
    (fun k l p => by
      unfold dmaIn dmaEff
      iintro ⟨#HR, ⟨Hown, ⟨%f, Hrow⟩, Hts, Htv⟩, HO⟩ Hk
      ihave #HIs := (inv_at m ρ K (c, .inr (.inl k))) $$ HR
      ihave #Hrs := (reached_at m ρ K (c, .inr (.inl k))) $$ HR
      ihave #HIv := (inv_at m ρ K (shift c k, .inr (.inr k))) $$ HR
      ihave #Hrv := (reached_at m ρ K (shift c k, .inr (.inr k))) $$ HR
      unfold rowPts
      iapply (Rounds.wp_send_pointsTo 𝒱₀ ER (rd m ρ) (c : Thread nD τ) none (κ₁ := K (c, .inr (.inl k))) (κ₂ := K (shift c k, .inr (.inr k)))
        (src := ownV c) (dst := ownV c) (c' := (shift c k : Thread nD τ)) (r₁ := 0) (r₂ := 0) (d₁ := (0 : Fin 31)) (d₂ := (0 : Fin 31))
        (fs := tot m ρ) (fd := f) (q := stepQ k)
        (by rw [duties_send]; exact Finset.mem_singleton_self _) (by rw [duties_recv]; exact Finset.mem_singleton_self _)
        () () N rfl (amount_send m ρ c k 0) (amount_recv m ρ (shift c k) k 0) (owedRecv c l)
        (owedRecv_cons c k l) (W := W)
        (by rw [payload_send]; unfold sendPay rowPts; exact BI.Entails.refl _)
        (by
          rw [payload_recv]; unfold recvPay rowPts; rw [back_shift]
          exact Entails.of_eq (pointsTo_congr fun i hi => copy_row c f (tot m ρ) i hi))) $$ [Hown Hrow Hts Htv HO]
      · isplitr; · iexact HIs
        isplitr; · iexact HIv
        isplitl [Hown]; · iexact Hown
        isplitl [Hrow]; · iexact Hrow
        isplitl [HO]; · iexact HO
        isplitl [Hts]; · iexact Hts
        isplitr; · iexact Hrs
        isplitl [Htv]; · iexact Htv
        iexact Hrv
      iexact Hk)
    l rest

/-! ## Waits -/

/-- Before a wait: its credit and its cell at the start of the round; -/
def waitIn (g : Fin 31 → GSem nD τ sig) (k : Fin 31) : sProp 𝕄 := iprop(cred (tallyAt (g k) () N) ∗ atPos ER (g k) 0 ∅ 0)
/-- after it: the payload, and the cell closed at zero. -/
def waitOut (g : Fin 31 → GSem nD τ sig) (P : Fin 31 → sProp 𝕄) (k : Fin 31) : sProp 𝕄 := iprop(P k ∗ semVal (g k) 0)

/-- Nothing is owed, whatever has been waited for. -/
def idle (c : Dev nD) : sProp 𝕄 := iprop(∃ W, owes (c : Thread nD τ) (0 : CellTallies nD τ sig Unit) W)

theorem wp_recvs (c : Dev nD) (l : List (Fin 31)) (rest : Prog (Eff (F := F)) PUnit) (Q : PUnit → sProp 𝕄) :
    iprop(records m ρ K ∗ bigSepL l (waitIn (recvCell c)) ∗ idle c)
      ⊢ iprop(((bigSepL l (waitOut (recvCell c) (recvPay m ρ c)) ∗ idle c) -∗ wpc c rest Q) -∗ wpc c (run (recvEff c) l rest) Q) :=
  wp_run c (recvEff c) Q (records m ρ K) (waitIn (recvCell c)) (waitOut (recvCell c) (recvPay m ρ c)) (fun _ => idle c)
    (fun k _ p => by
      unfold waitIn waitOut idle recvEff
      iintro ⟨#HR, ⟨Hc, Hat⟩, ⟨%W, HO⟩⟩ Hk
      ihave #HI := (inv_at m ρ K (c, .inr (.inr k))) $$ HR
      iapply (Rounds.wp_wait_rest_token 𝒱₀ ER (rd m ρ) (c : Thread nD τ) none (κ := K (c, .inr (.inr k)))
        (wpE_waitDma2_eq 𝒱₀ (c : Thread nD τ) none Set.univ) (Set.mem_univ _) () (O := 0) (W := W) (R := 0) (m := 0) (T := ∅)
        (by rw [Nat.zero_add]; exact (expect_recv m ρ c k).symm)) $$ [Hc HO Hat]
      · isplitr; · iexact HI
        isplitl [Hc]; · iexact Hc
        isplitl [HO]; · iexact HO
        isplitr; · rw [MayWait_zero]; iempintro
        iexact Hat
      iintro ⟨HO, Hat, -, Hpay⟩
      ihave Hp := (Entails.of_eq (rest_recv m ρ c k)) $$ Hpay
      imod (Rounds.cell_close ER (rd m ρ) (Set.mem_univ (K (c, .inr (.inr k)))) (fun h => h) (R := 0 + 1) (duties_later m ρ (recvCell c k))) $$ [Hat] with Hz
      · isplitr; · iexact HI
        iexact Hat
      iapply Hk
      isplitl [Hp Hz]
      · isplitl [Hp] <;> iassumption
      iexists _; iexact HO)
    l rest

theorem wp_sends (c : Dev nD) (l : List (Fin 31)) (rest : Prog (Eff (F := F)) PUnit) (Q : PUnit → sProp 𝕄) :
    iprop(records m ρ K ∗ bigSepL l (waitIn (sendCell c)) ∗ idle c)
      ⊢ iprop(((bigSepL l (waitOut (sendCell c) (sendPay m ρ c)) ∗ idle c) -∗ wpc c rest Q) -∗ wpc c (run (sendEff c) l rest) Q) :=
  wp_run c (sendEff c) Q (records m ρ K) (waitIn (sendCell c)) (waitOut (sendCell c) (sendPay m ρ c)) (fun _ => idle c)
    (fun k _ p => by
      unfold waitIn waitOut idle sendEff
      iintro ⟨#HR, ⟨Hc, Hat⟩, ⟨%W, HO⟩⟩ Hk
      ihave #HI := (inv_at m ρ K (c, .inr (.inl k))) $$ HR
      iapply (Rounds.wp_wait_rest_token 𝒱₀ ER (rd m ρ) (c : Thread nD τ) none (κ := K (c, .inr (.inl k)))
        (wpE_waitDma2_eq 𝒱₀ (c : Thread nD τ) none Set.univ) (Set.mem_univ _) () (O := 0) (W := W) (R := 0) (m := 0) (T := ∅)
        (by rw [Nat.zero_add]; exact (expect_send m ρ c k).symm)) $$ [Hc HO Hat]
      · isplitr; · iexact HI
        isplitl [Hc]; · iexact Hc
        isplitl [HO]; · iexact HO
        isplitr; · rw [MayWait_zero]; iempintro
        iexact Hat
      iintro ⟨HO, Hat, -, Hpay⟩
      ihave Hp := (Entails.of_eq (rest_send m ρ c k)) $$ Hpay
      imod (Rounds.cell_close ER (rd m ρ) (Set.mem_univ (K (c, .inr (.inl k)))) (fun h => h) (R := 0 + 1) (duties_later m ρ (sendCell c k))) $$ [Hat] with Hz
      · isplitr; · iexact HI
        iexact Hat
      iapply Hk
      isplitl [Hp Hz]
      · isplitl [Hp] <;> iassumption
      iexists _; iexact HO)
    l rest

end Cert.KernelIdeal.Scan

end
-- ==== Proof.KernelIdeal.Body.lean ====
/-
# The body of one device

From its positions, tokens, credits and its table at any contents, a device's body runs to: the staged block as it was, the staged
result holding `outAt`, the table holding `tot`, and every cell of its own closed at zero.
-/
module

public import proofs.«01_k».proof.Proof.KernelIdeal.Phases
public import proofs.«01_k».proof.Proof.Gen.KernelIdeal.Points

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The table, gathered and released -/

/-- The table of device `c`, at a share. -/
abbrev tabPts (q : PosShare TreeShare) (c : Dev nD) (f : Table (F := F)) : sProp 𝕄 := ((c : Thread nD τ).loc cc0_scratch0) ↦{q} f

/-- The shares of the received rows that a read of the whole table does not use. -/
def spare (c : Dev nD) (f : Table (F := F)) : sProp 𝕄 :=
  bigSep Finset.univ fun k : Fin 31 => bigSep Finset.univ fun j : Fin 31 => rowPts (stepQ j) c (back c k) f

omit [FloatOps F] in
/-- What is kept of the own row, with the received rows, is the table at the share kept. -/
theorem gather (c : Dev nD) (f : Table (F := F)) :
    iprop(rowPts keepQ c c f ∗ bigSep Finset.univ fun k : Fin 31 => rowPts fullShare c (back c k) f) ⊢ iprop(tabPts keepQ c f ∗ spare c f) := by
  unfold spare
  simp only [row_split]
  rw [bigSep_sep', tabPts, table_rows, bigSep_back c]
  iintro ⟨Hc, Hk, Hs⟩
  isplitl [Hc Hk]
  · isplitl [Hc] <;> iassumption
  iexact Hs

omit [FloatOps F] in
/-- With all shares back the table is held outright. -/
theorem release (c : Dev nD) (f : Table (F := F)) :
    iprop(tabPts keepQ c f ∗ spare c f ∗ bigSep Finset.univ fun k : Fin 31 => rowPts (stepQ k) c c f) ⊢ tabPts fullShare c f := by
  unfold spare
  rw [tabPts, tabPts, table_rows, table_rows, bigSep_back c, bigSep_back c fun r => rowPts fullShare c r f]
  simp only [row_split]
  rw [bigSep_sep']
  iintro ⟨⟨Hc, Hk⟩, Hs, Ho⟩
  isplitl [Hc Ho]
  · isplitl [Hc] <;> iassumption
  isplitl [Hk] <;> iassumption

/-! ## The pipeline's proof data -/

/-- The result of device `c`: its block scanned, plus the totals of the devices before it. -/
def outAt (c : Dev nD) : (cc0_stg1_0 : Ref sig .tc).ty.Contents (Elt F) := k0_pay4 (rankW c) (k0_pay3 (xstg m ρ c)) (tot m ρ)

/-- What device `c` holds of the protocol at the start, the cells' records besides: its cells' positions, the duties it pays. -/
def holding (c : Dev nD) : sProp 𝕄 :=
  iprop((atPos ER (barCell c) 0 ∅ 0
      ∗ (bigSep Finset.univ fun k : Fin 31 => atPos ER (sendCell c k) 0 ∅ 0)
      ∗ (bigSep Finset.univ fun k : Fin 31 => atPos ER (recvCell c k) 0 ∅ 0))
    ∗ (bigSep Finset.univ fun k : Fin 31 => dutyTok ER (barCell (shift c k)) 0 k)
    ∗ (bigSep Finset.univ fun k : Fin 31 => dutyTok ER (sendCell c k) 0 (0 : Fin 31))
    ∗ (bigSep Finset.univ fun k : Fin 31 => dutyTok ER (recvCell (shift c k) k) 0 (0 : Fin 31)))

/-- The credits it spends. -/
def credits (c : Dev nD) : sProp 𝕄 :=
  iprop(cred (tallyAt (barCell c) () 31) ∗ bigSep Finset.univ fun k : Fin 31 => cred (tallyAt (recvCell c k) () N))

def start (c : Dev nD) : sProp 𝕄 := iprop((∃ K, records m ρ K ∗ holding c) ∗ credits c ∗ levAts L lv)

def Φ₀ (c : Dev nD) : sProp 𝕄 := iprop(start m ρ c ∗ ∃ f, tabPts fullShare c f)
def Φ₁ (c : Dev nD) : sProp 𝕄 :=
  iprop(tabPts fullShare c (tot m ρ) ∗ semVal (barCell c) 0
    ∗ (bigSep Finset.univ fun k : Fin 31 => semVal (sendCell c k) 0) ∗ bigSep Finset.univ fun k : Fin 31 => semVal (recvCell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by
  have h : t = t0_0 := fin_N0 t
  subst h; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Reads and writes -/

omit [FloatOps F] in
theorem zero2 : (![0, 0] : Fin 2 → ℕ) = fun _ => 0 := funext fun a => by fin_cases a <;> rfl
omit [FloatOps F] in
theorem zero3 : (![0, 0, 0] : Fin 3 → ℕ) = fun _ => 0 := funext fun a => by fin_cases a <;> rfl
omit [FloatOps F] in
theorem read_x (f : (cc0_stg0_0 : Ref sig .tc).ty.Contents (Elt F)) : (xM : Memref sig .tc .vmem S256x256 .f32).view.readAt (Elt F) rX.toLoadRect f = f :=
  Memref.readAt_unit_zero (Elt F) cc0_stg0_0 zero2 _ f
omit [FloatOps F] in
theorem read_table (f : Table (F := F)) : (tM : Memref sig .tc .vmem S32x1x256 .f32).view.readAt (Elt F) rT.toLoadRect f = f :=
  Memref.readAt_unit_zero (Elt F) cc0_scratch0 zero3 _ f
omit [FloatOps F] in
theorem write_out (f w : (cc0_stg1_0 : Ref sig .tc).ty.Contents (Elt F)) :
    ((oM : Memref sig .tc .vmem S256x256 .f32).access rX : View sig .tc _ _ _).write (Elt F) f w Finset.univ = w :=
  Memref.write_access_unit_zero_univ (Elt F) cc0_stg1_0 zero2 _ f w

theorem owedBar_nil (c : Dev nD) (O : CellTallies nD τ sig Unit) : O + owedBar c [] = O := add_zero O
theorem owedRecv_nil (c : Dev nD) : owedRecv c [] = 0 := rfl

/-! ## The parts of the body -/

variable (K : Dev nD × CellIx → ℕ)

/-- After the copies have left: the receipts, the result, the returns. -/
theorem wp_tail (c : Dev nD) (x : Vec F S256x256 .f32) (g : (cc0_stg1_0 : Ref sig .tc).ty.Contents (Elt F)) (Q : PUnit → sProp 𝕄) :
    iprop(records m ρ K
        ∗ (bigSep Finset.univ fun k : Fin 31 => atPos ER (sendCell c k) 0 ∅ 0) ∗ (bigSep Finset.univ fun k : Fin 31 => atPos ER (recvCell c k) 0 ∅ 0)
        ∗ (bigSep Finset.univ fun k : Fin 31 => cred (tallyAt (sendCell c k) () N)) ∗ (bigSep Finset.univ fun k : Fin 31 => cred (tallyAt (recvCell c k) () N))
        ∗ idle c ∗ rowPts keepQ c c (tot m ρ) ∗ (((c : Thread nD τ).loc cc0_stg1_0) ↦{fullShare} g))
      ⊢ iprop(((tabPts fullShare c (tot m ρ) ∗ (((c : Thread nD τ).loc cc0_stg1_0) ↦{fullShare} k0_pay4 (rankW c) (k0_pay3 x) (tot m ρ)) ∗ idle c
            ∗ (bigSep Finset.univ fun k : Fin 31 => semVal (sendCell c k) 0) ∗ bigSep Finset.univ fun k : Fin 31 => semVal (recvCell c k) 0) -∗ Q ⟨⟩)
          -∗ wpc c (run (recvEff c) steps (tailProg c x)) Q) := by
  iintro ⟨#HR, Has, Har, Hcs, Hcr, HO, Hrow, Hout⟩ Hk
  iapply (wp_recvs m ρ K c steps (tailProg c x) Q) $$ [Har Hcr HO]
  · isplitr; · iexact HR
    isplitl [Har Hcr]
    · rw [← bigSep_steps]; unfold waitIn; rw [bigSep_sep']
      isplitl [Hcr] <;> iassumption
    iexact HO
  rw [← bigSep_steps]
  unfold waitOut; rw [bigSep_sep']
  iintro ⟨⟨Hp, Hzr⟩, HO⟩
  unfold recvPay
  ihave Hg := (gather c (tot m ρ)) $$ [Hrow Hp]
  · isplitl [Hrow] <;> iassumption
  icases Hg with ⟨Htab, Hspare⟩
  unfold tailProg wpc
  iapply (wp_load 𝒱₀ (c : Thread nD τ) none Set.univ (m := tM) (Finset.subset_univ _)) $$ Htab; iintro Htab
  rw [read_table]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  iapply (wp_sends m ρ K c steps (.ret ⟨⟩) Q) $$ [Has Hcs HO]
  · isplitr; · iexact HR
    isplitl [Has Hcs]
    · rw [← bigSep_steps]; unfold waitIn; rw [bigSep_sep']
      isplitl [Hcs] <;> iassumption
    iexact HO
  rw [← bigSep_steps]
  unfold waitOut; rw [bigSep_sep']
  iintro ⟨⟨Hp, Hzs⟩, HO⟩
  unfold sendPay wpc
  rw [wp_ret]; imodintro
  iapply Hk
  isplitl [Htab Hspare Hp]
  · iapply (release c (tot m ρ))
    isplitl [Htab]; · iexact Htab
    isplitl [Hspare] <;> iassumption
  isplitl [Hout]; · iexact Hout
  isplitl [HO]; · iexact HO
  isplitl [Hzs] <;> iassumption

omit [FloatOps F] in
/-- A row handed over is handed over at some contents. -/
theorem rows_any (c : Dev nD) (f : Table (F := F)) :
    (bigSep Finset.univ fun k : Fin 31 => rowPts (F := F) fullShare c (shift c k) f)
      ⊢ bigSep Finset.univ fun k : Fin 31 => iprop(∃ f, rowPts (F := F) fullShare c (shift c k) f) :=
  bigSep_mono fun k _ => exists_intro (Φ := fun f => rowPts (F := F) fullShare c (shift c k) f) f

/-- What the body of device `c` starts from, -/
def bodyPre (c : Dev nD) : sProp 𝕄 :=
  iprop(Φ₀ m ρ c ∗ (∃ W, owes (c : Thread nD τ) (O₀ c) W)
    ∗ (((c : Thread nD τ).loc cc0_stg0_0) ↦{fullShare} xstg m ρ c) ∗ ∃ g, ((c : Thread nD τ).loc cc0_stg1_0) ↦{fullShare} g)
/-- and what it ends with. -/
def bodyPost (c : Dev nD) : sProp 𝕄 :=
  iprop(Φ₁ m ρ c ∗ idle c ∗ (((c : Thread nD τ).loc cc0_stg0_0) ↦{fullShare} xstg m ρ c) ∗ (((c : Thread nD τ).loc cc0_stg1_0) ↦{fullShare} outAt m ρ c))

set_option maxHeartbeats 800000 in
theorem sound_body (c : Dev nD) (Q : PUnit → sProp 𝕄) :
    iprop(bodyPre m ρ c ∗ (bodyPost m ρ c -∗ Q ⟨⟩)) ⊢ wpc c (printed (F := F)) Q := by
  rw [printed_eq]
  unfold wpc
  rw [wp_deviceId, show sigDev c = shift c from funext fun k => sigDev_eq c k, show dmaDev c = shift c from funext fun k => dmaDev_eq c k]
  unfold bodyPre Φ₀ start holding credits
  iintro ⟨⟨⟨⟨⟨%K, #HR, ⟨Hab, Has, Har⟩, Htb, Hts, Htr⟩, ⟨Hcb, Hcr⟩, #Hlev⟩, ⟨%f0, Htab⟩⟩, ⟨%W, HO⟩, Hx, ⟨%g, Hout⟩⟩, Hk⟩
  ihave Hrows := (Entails.of_eq ((table_rows fullShare c f0).trans (bigSep_shift c _))) $$ Htab
  icases Hrows with ⟨Hrow, Hrows⟩
  unfold bodyProg
  -- the signals, each with the row that belongs to its target
  unfold O₀
  iapply (wp_signals m ρ K c W (owedRecv c steps) steps (midProg c (shift c)) Q) $$ [Htb Hrows HO]
  · isplitr; · iexact HR
    isplitl [Htb Hrows]
    · rw [← bigSep_steps]; unfold sigIn; rw [bigSep_sep']
      isplitl [Htb]; · iexact Htb
      iapply (rows_any c f0)
      iexact Hrows
    iexact HO
  rw [owedBar_nil]
  iintro ⟨-, HO⟩
  unfold midProg wpc
  -- the own totals into the own row
  iapply (wp_load 𝒱₀ (c : Thread nD τ) none Set.univ (m := xM) (Finset.subset_univ _)) $$ Hx; iintro Hx
  rw [read_x]
  unfold rowPts
  iapply (wp_load_rect 𝒱₀ (c : Thread nD τ) none Set.univ (m := tM) (r := rOwn c) (access_own c).subset) $$ Hrow; iintro Hrow
  iapply (wp_store 𝒱₀ (c : Thread nD τ) none Set.univ (m := tM) (r := rOwn c) (Mk := Finset.univ) (access_own c).subset) $$ Hrow; iintro Hrow
  ihave Hrow := (Entails.of_eq (pointsTo_congr fun i hi => store_row m ρ c f0 i hi)) $$ Hrow
  -- everyone is running
  iapply (Rounds.wp_wait_rest_token 𝒱₀ ER (rd m ρ) (c : Thread nD τ) none (κ := K (c, .inl ()))
      (wpE_semWait_eq 𝒱₀ (c : Thread nD τ) none Set.univ) (Set.mem_univ _) () (O := owedRecv c steps) (W := W) (R := 0) (m := 0) (T := ∅)
      (by rw [expect_bar])) $$ [Hcb HO Hab]
  · isplitr; · iapply (inv_at m ρ K (c, .inl ())); iexact HR
    isplitl [Hcb]; · iexact Hcb
    isplitl [HO]; · iexact HO
    isplitr; · iapply (mayWait_bar c); iexact Hlev
    iexact Hab
  iintro ⟨HO, Hab, -, Hpay⟩
  ihave Hp := (Entails.of_eq ((rest_bar m ρ c).trans (bigSep_rev _))) $$ Hpay
  imod (Rounds.cell_close ER (rd m ρ) (Set.mem_univ (K (c, .inl ()))) (fun h => h) (R := 0 + 1) (duties_later m ρ (barCell c))) $$ [Hab] with Hzb
  · isplitr; · iapply (inv_at m ρ K (c, .inl ())); iexact HR
    iexact Hab
  -- the copies
  ihave Hsh := (Entails.of_eq (row_split c c (tot m ρ))) $$ [Hrow]
  · unfold rowPts; iexact Hrow
  icases Hsh with ⟨Hrow, Hsh⟩
  unfold barPay
  simp only [back_rev]
  iapply (wp_copies m ρ K c (insert (SemLoc.reg barS, ()) W) steps (run (recvEff c) steps (tailProg c (xstg m ρ c))) Q) $$ [Hsh Hp Hts Htr HO]
  · isplitr; · iexact HR
    isplitl [Hsh Hp Hts Htr]
    · rw [← bigSep_steps]; unfold dmaIn; rw [bigSep_sep', bigSep_sep', bigSep_sep']
      isplitl [Hsh]; · iexact Hsh
      isplitl [Hp]; · iexact Hp
      isplitl [Hts] <;> iassumption
    iexact HO
  rw [owedRecv_nil, ← bigSep_steps]
  iintro ⟨Hcs, HO⟩
  iapply (wp_tail m ρ K c (xstg m ρ c) g Q) $$ [Has Har Hcs Hcr HO Hrow Hout]
  · isplitr; · iexact HR
    isplitl [Has]; · iexact Has
    isplitl [Har]; · iexact Har
    isplitl [Hcs]; · iexact Hcs
    isplitl [Hcr]; · iexact Hcr
    isplitl [HO]; · unfold idle; iexists _; iexact HO
    isplitl [Hrow] <;> iassumption
  iintro ⟨Htab, Hout, HO, Hzs, Hzr⟩
  iapply Hk
  unfold bodyPost Φ₁ outAt
  isplitl [Htab Hzb Hzs Hzr]
  · isplitl [Htab]; · iexact Htab
    isplitl [Hzb]; · iexact Hzb
    isplitl [Hzs] <;> iassumption
  isplitl [HO]; · iexact HO
  isplitl [Hx] <;> iassumption

end Cert.KernelIdeal.Scan

end
-- ==== Proof.KernelIdeal.Obligation.lean ====
/-
# The pipeline's obligation

The launch has one grid point; what its pipeline asks of the body there is `sound_body`, with the staging buffers' contents named.
-/
module

public import proofs.«01_k».proof.Proof.KernelIdeal.Body

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The pipeline's hand-over before the body, -/
def handIn (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and after it. -/
def handOut (c : Dev nD) : sProp 𝕄 :=
  iprop(Φ₁ m ρ c ∗ (dats m ρ 0 c).owesAt () t0_0.succ ∗ stg c cc0_stg0_0 (xstg m ρ c) ∗ stg c cc0_stg1_0 (outAt m ρ c))

theorem handIn_pre (c : Dev nD) : handIn m ρ c ⊢ bodyPre m ρ c := by
  unfold handIn bodyPre Dat.owesAt Pipeline.owesWithin
  iintro ⟨HΦ, ⟨%W, %hW, HO⟩, ⟨%d0, %g0, %hg0, Hx⟩, ⟨%d1, %g1, %hg1, Hout⟩⟩
  have hx : g0 = xstg m ρ c := by rw [hg0]; unfold Dat.before; rw [if_pos (fetch_0 t0_0)]; rfl
  subst hx
  isplitl [HΦ]; · iexact HΦ
  isplitl [HO]; · iexists W; iexact HO
  isplitl [Hx]; · iexact Hx
  iexists g1; iexact Hout

theorem post_handOut (c : Dev nD) : bodyPost m ρ c ⊢ handOut m ρ c := by
  unfold handOut bodyPost idle Dat.owesAt Pipeline.owesWithin
  iintro ⟨HΦ, ⟨%W, HO⟩, Hx, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
theorem body_obligation (c : Dev nD) : BodyObligation (dats (F := F) m ρ 0 c) (defs₀ (F := F)) 𝒱₀ () Set.univ := fun t => by
  have ht : t = t0_0 := fin_N0 t
  subst ht
  rw [bigSep_W0, bigSep_W0]
  simp only [owns_whole_eq]
  show handIn m ρ c ⊢ wpc c (printed (F := F)) (fun _ => handOut m ρ c)
  refine (handIn_pre m ρ c).trans ?_
  iintro H
  iapply (sound_body m ρ c fun _ => handOut m ρ c)
  isplitl [H]; · iexact H
  iintro H
  iapply (post_handOut m ρ c); iexact H

end Cert.KernelIdeal.Scan

end
-- ==== Proof.KernelIdeal.Run.lean ====
/-
# The launch and the run

At launch every device gets its own cells' positions, the tokens of the duties it pays - each minted with the cell it belongs to and
dealt to its payer - and the credits for what the others owe it. Every execution of the program then ends with each device's result
array at `outAt`, its argument unchanged and every semaphore at zero.
-/
module

public import proofs.«01_k».proof.Proof.KernelIdeal.Obligation
public import Idealize.ShloMosaic.Lib.Pipeline.CollectiveSegs

@[expose] public section

noncomputable section

namespace Cert.KernelIdeal.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

theorem ownSemFacts : Pipeline.OwnSemFacts cfg0.spec osem where
  isScoped := by decide
  inj := fun a b h => by
    have h2 := congrArg role h
    rcases a with k | k <;> rcases b with k' | k' <;> simp only [osem, role_send, role_recv] at h2 <;> cases h2 <;> rfl
  disj := fun k w s h => by
    have h2 := congrArg role h
    have h3 : role (.dma ((cfg0.spec w).sem s)) = .other := by fin_cases w <;> fin_cases s <;> rfl
    rw [h3] at h2
    rcases k with k | k <;> simp only [osem, role_send, role_recv] at h2 <;> cases h2

theorem share_eq (c : Dev nD) (w : Fin cfg0.W) : (dats m ρ 0 c).share w = fullShare := by unfold Dat.share; split <;> rfl

def protoCells : Finset (GSem nD τ sig) := Finset.univ.map ⟨kcell, kcell_injective⟩

/-- A device's own cells' duty tokens: one per step for the barrier, one for each send and each receipt. -/
abbrev tokOf (cj : Dev nD × (Fin 31 ⊕ (Fin 31 ⊕ Fin 31))) : GSem nD τ sig × ℕ × Fin 31 := match cj.2 with
  | .inl k => (barCell cj.1, 0, k)
  | .inr (.inl k) => (sendCell cj.1 k, 0, 0)
  | .inr (.inr k) => (recvCell cj.1 k, 0, 0)
theorem tokOf_injective : Function.Injective tokOf := by
  rintro ⟨c, j⟩ ⟨c', j'⟩ h
  have h2 := congrArg (fun x : GSem nD τ sig × ℕ × Fin 31 => (x.1.1.1, role x.1.2, x.2.2)) h
  rcases j with k | (k | k) <;> rcases j' with k' | (k' | k') <;>
    simp only [tokOf, role_bar, role_send, role_recv, Prod.mk.injEq, reduceCtorEq, false_and, and_false] at h2 <;>
    obtain ⟨rfl, h3, h4⟩ := h2
  · subst h4; rfl
  · cases h3; rfl
  · cases h3; rfl
def protoToks : Finset (GSem nD τ sig × ℕ × Fin 31) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun k : Fin 31 => dutyTok ER (barCell c) 0 k)
    ∗ (bigSep Finset.univ fun k : Fin 31 => dutyTok ER (sendCell c k) 0 (0 : Fin 31))
    ∗ (bigSep Finset.univ fun k : Fin 31 => dutyTok ER (recvCell c k) 0 (0 : Fin 31)))

/-- What device `c` is dealt: its cells' states, positions and marks, its own cells' tokens; -/
def G (c : Dev nD) : sProp 𝕄 :=
  iprop((bigSep Finset.univ fun j : CellIx => roundState ER (rd m ρ) (kcell (c, j)) 0)
    ∗ (bigSep Finset.univ fun j : CellIx => iprop(atPos ER (kcell (c, j)) 0 ∅ 0 ∗ reached ER (kcell (c, j)) 0)) ∗ toks c)
/-- and what becomes of it once the cells' invariants stand. -/
def G' (c : Dev nD) : sProp 𝕄 := iprop(∃ K, records m ρ K ∗ holding c)

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun j : CellIx => Φ (kcell (c, j)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Over a device's cells: the barrier, the sends, the receipts. -/
theorem bigSep_cells (Φ : CellIx → sProp 𝕄) :
    bigSep Finset.univ Φ = iprop(Φ (.inl ()) ∗ (bigSep Finset.univ fun k : Fin 31 => Φ (.inr (.inl k))) ∗ bigSep Finset.univ fun k : Fin 31 => Φ (.inr (.inr k))) := by
  rw [bigSep_univ_sum, bigSep_univ_sum, bigSep_univ_of_subsingleton ()]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ bigSep Finset.univ fun k : Fin 31 => semVal (recvCell c k) 0) := by
  unfold Pipeline.ownSems0; rw [bigSep_univ_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CellIx => semVal (kcell (c, j)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : CellIx => iprop(∃ κ : ℕ, cellInv ER (rd m ρ) κ (kcell (c, j))))
          ∗ (bigSep Finset.univ fun j : CellIx => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CellIx => semVal (kcell (c, j)) 0) ∗ bigSep Finset.univ fun j : CellIx => roundState ER (rd m ρ) (kcell (c, j)) 0)
      ⊢ (|={Set.univ}=> bigSep Finset.univ fun j => iprop(∃ κ : ℕ, cellInv ER (rd m ρ) κ (kcell (c, j))) : sProp 𝕄) from by
        rw [← bigSep_sep']
        exact (bigSep_mono fun j _ => (Rounds.body_intro ER (rd m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What every device has for every step may be dealt to the step's other end. -/
theorem around (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (shift c k) k := by
  rw [bigSep_univ_comm, bigSep_univ_comm fun (c : Dev nD) k => Φ (shift c k) k]
  exact bigSep_congr fun k _ => bigSep_univ_equiv (⟨fun c => shift c k, fun c => back c k, fun c => back_shift c k, fun c => shift_back c k⟩ : Dev nD ≃ Dev nD) fun c => Φ c k

/-- The tokens device `c` pays with. -/
def payToks (c : Dev nD) : sProp 𝕄 :=
  iprop((bigSep Finset.univ fun k : Fin 31 => dutyTok ER (barCell (shift c k)) 0 k)
    ∗ (bigSep Finset.univ fun k : Fin 31 => dutyTok ER (sendCell c k) 0 (0 : Fin 31))
    ∗ (bigSep Finset.univ fun k : Fin 31 => dutyTok ER (recvCell (shift c k) k) 0 (0 : Fin 31)))

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', around fun c k => dutyTok ER (barCell c) 0 k,
    around fun c k => dutyTok ER (recvCell c k) 0 (0 : Fin 31)]

theorem G'_intro (K : Dev nD × CellIx → ℕ) (c : Dev nD) :
    iprop(records m ρ K ∗ ((bigSep Finset.univ fun j : CellIx => atPos ER (kcell (c, j)) 0 ∅ 0) ∗ payToks c)) ⊢ G' m ρ c := by
  rw [bigSep_cells]
  unfold G' holding payToks
  iintro ⟨HR, H⟩
  iexists K
  isplitl [HR] <;> iassumption

theorem regroup :
    (bigSep Finset.univ fun c : Dev nD => iprop((bigSep Finset.univ fun j : CellIx => iprop(∃ κ : ℕ, cellInv ER (rd m ρ) κ (kcell (c, j))))
          ∗ (bigSep Finset.univ fun j : CellIx => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × CellIx => iprop(∃ κ : ℕ, cellInv ER (rd m ρ) κ (kcell cj))),
    bigSep_congr (s := Finset.univ) (fun (c : Dev nD) _ => bigSep_sep' Finset.univ (fun j : CellIx => (atPos ER (kcell (c, j)) 0 ∅ 0 : sProp 𝕄)) (fun j => reached ER (kcell (c, j)) 0)),
    bigSep_sep', ← bigSep_univ_prod (fun cj : Dev nD × CellIx => (reached ER (kcell cj) 0 : sProp 𝕄)), toks_around]
  iintro ⟨HI, ⟨Hat, #HR⟩, Htok⟩
  ihave HK := (BI.bigSep_exists_pi Finset.univ (fun (cj : Dev nD × CellIx) (κ : ℕ) => (cellInv ER (rd m ρ) κ (kcell cj) : sProp 𝕄))) $$ HI
  icases HK with ⟨%K, #HI⟩
  iapply (BI.bigSep_with_persistent (R := records m ρ K) fun c _ => G'_intro m ρ K c)
  isplitr
  · unfold records; isplitl; · iexact HI
    iexact HR
  · rw [bigSep_sep']
    isplitl [Hat]; · iexact Hat
    iexact Htok

/-- The step taken for all devices at once: every cell's invariant. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem O₀_sum : O₀ = fun d : Dev nD => (fun d => ∑ k : Fin 31, (tallyAt (recvCell (shift d k) k) () N : CellTallies nD τ sig Unit)) d
    + (fun d => ∑ k : Fin 31, (tallyAt (barCell (shift d k)) () 1 : CellTallies nD τ sig Unit)) d := by
  funext d
  unfold O₀ owedRecv owedBar
  dsimp only
  rw [Fin.sum_univ_def, Fin.sum_univ_def]

theorem ones (g : GSem nD τ sig) : ∑ _k : Fin 31, (tallyAt g () 1 : CellTallies nD τ sig Unit) = tallyAt g () 31 := by
  have h : ∀ n : ℕ, n • (tallyAt g () 1 : CellTallies nD τ sig Unit) = tallyAt g () n := by
    intro n
    induction n with
    | zero => rw [zero_smul, tallyAt_zero]
    | succ n ih => rw [succ_nsmul, ih, tallyAt_add]
  rw [Finset.sum_const, Finset.card_univ, Fintype.card_fin, h]

omit [FloatOps F] in
theorem cred_bar (c : Dev nD) (k : Fin 31) :
    (Pipeline.launchCred (fun d : Dev nD => (tallyAt (barCell (shift d k)) () 1 : CellTallies nD τ sig Unit)) c : sProp 𝕄) ⊢ cred (tallyAt (barCell c) () 1) :=
  Pipeline.launchCred_tallyAt (.reg barS) (fun d : Dev nD => shift d k) (fun d => back d k) (fun d => shift_back d k) (fun d => back_shift d k) () 1 c
omit [FloatOps F] in
theorem cred_recv (c : Dev nD) (k : Fin 31) :
    (Pipeline.launchCred (fun d : Dev nD => (tallyAt (recvCell (shift d k) k) () N : CellTallies nD τ sig Unit)) c : sProp 𝕄) ⊢ cred (tallyAt (recvCell c k) () N) :=
  Pipeline.launchCred_tallyAt (.dma (recvS k)) (fun d : Dev nD => shift d k) (fun d => back d k) (fun d => shift_back d k) (fun d => back_shift d k) () N c
omit [FloatOps F] in
theorem creds_bar (c : Dev nD) :
    (bigSep Finset.univ fun k : Fin 31 => Pipeline.launchCred (fun d : Dev nD => (tallyAt (barCell (shift d k)) () 1 : CellTallies nD τ sig Unit)) c : sProp 𝕄)
      ⊢ bigSep Finset.univ fun _ : Fin 31 => cred (tallyAt (barCell c) () 1) :=
  bigSep_mono fun k _ => cred_bar c k
omit [FloatOps F] in
theorem creds_recv (c : Dev nD) :
    (bigSep Finset.univ fun k : Fin 31 => Pipeline.launchCred (fun d : Dev nD => (tallyAt (recvCell (shift d k) k) () N : CellTallies nD τ sig Unit)) c : sProp 𝕄)
      ⊢ bigSep Finset.univ fun k : Fin 31 => cred (tallyAt (recvCell c k) () N) :=
  bigSep_mono fun k _ => cred_recv c k
omit [FloatOps F] in
theorem creds (c : Dev nD) : (Pipeline.launchCred O₀ c : sProp 𝕄) ⊢ credits c := by
  rw [O₀_sum, Pipeline.launchCred_add, Pipeline.launchCred_sum Finset.univ (fun (k : Fin 31) d => tallyAt (recvCell (shift d k) k) () N),
    Pipeline.launchCred_sum Finset.univ (fun (k : Fin 31) d => tallyAt (barCell (shift d k)) () 1)]
  unfold credits
  rw [← ones, Pipeline.cred_finsetSum]
  iintro ⟨Hr, Hb⟩
  isplitl [Hb]
  · iapply (creds_bar c); iexact Hb
  · iapply (creds_recv c); iexact Hr

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (tot m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero every weakly fair execution of the program on the thirty-two devices ends, with each
    device's arrays at the computed contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The argument array keeps its contents. -/
theorem finalA_x (c : Dev nD) : finalA m ρ c (0 : Fin 2) = (s₀ m ρ).mem ((cfg0.win (0 : Fin 2)).arr.view.loc (c : Thread nD τ)) :=
  (dats (F := F) m ρ 0 c).arrAt_in (0 : Fin 2) rfl _

/-- The result array holds what the body computed. -/
theorem finalA_o (c : Dev nD) : finalA m ρ c (1 : Fin 2) = outAt m ρ c :=
  (dats m ρ 0 c).arrAt_eq_of_after_last (1 : Fin 2) t0_0 (by decide +kernel) _ fun _ => rfl

/-- The run, read at the program's references: every device's result at `outAt`, its argument unchanged, no count left. -/
theorem run_values : θ_run defs (onTc (τ := τ) (main (F := F))) (s₀ m ρ) (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun r h => ⟨fun c => ⟨(h.1 c (1 : Fin 2)).trans (finalA_o m ρ c), (h.1 c (0 : Fin 2)).trans (finalA_x m ρ c)⟩, h.2⟩) (run_main m ρ)

end Cert.KernelIdeal.Scan

end
-- ==== Proof.Equation.lean ====
/-
# The kernel's result is its part of the reference's

Row `i` of device `c`'s block is row `256 c + i` of the whole array. The sum of the rows up to it is the sum of the block's own rows
up to `i` and of all rows of the blocks before.
-/
module

public import proofs.«01_k».proof.Proof.Reference
public import proofs.«01_k».proof.Proof.KernelIdeal.Run
public import Idealize.ShloMosaic.Lib.Layout

@[expose] public section

noncomputable section

namespace Cert.Value

open Cert.KernelIdeal Cert.KernelIdeal.Gen Cert.KernelIdeal.Scan
open Idealize.ShloMosaic Idealize.ShloMosaic.TcCoe

variable (m : (ℓ : Loc nD τ sig) → Buf (Elt Ideal) ℓ) (ρ : Dev nD → PrngReg)

/-- The staged block is the device's argument array. -/
theorem xstg_eq (c : Dev nD) : (xstg m ρ c : FVec Ideal S256x256 .f32) = m ((c : Thread nD τ).loc main_arg0) :=
  funext fun i => congrArg (m ((c : Thread nD τ).loc main_arg0)) (funext fun a => Fin.ext (by
    match a with
    | ⟨0, _⟩ => exact (Nat.zero_add _).trans (Nat.one_mul _)
    | ⟨1, _⟩ => exact (Nat.zero_add _).trans (Nat.one_mul _)))

variable (X : FVec Ideal Cert.ReferenceIdeal.S8192x256 .f32)

/-- Where a block's element is in the whole array. -/
theorem block_ix2 (c : Fin 32) (Y : FVec Ideal Cert.ReferenceIdeal.S8192x256 .f32) (i l : Fin 256) :
    (Layout.block ⟨2, ![256, 256]⟩ ⟨2, ![8192, 256]⟩ 0 32 c Y) (ix2 i l) = Y (ix2 ⟨c.val * 256 + i.val, by have := c.isLt; have := i.isLt; omega⟩ l) :=
  congrArg Y (funext fun a => match a with | ⟨0, _⟩ => rfl | ⟨1, _⟩ => rfl)

/-- A column of a block is a stretch of the whole array's column. -/
theorem col_block (c : Fin 32) (l : Fin 256) (k : ℕ) (hk : k < 256) :
    col (Layout.block ⟨2, ![256, 256]⟩ ⟨2, ![8192, 256]⟩ 0 32 c X) l k = col X l (c.val * 256 + k) := by
  have hc := c.isLt
  unfold col
  rw [dif_pos hk, dif_pos (by omega), block_ix2]

theorem out_eq (hX : ∀ c : Dev nD, m ((c : Thread nD τ).loc main_arg0) = Layout.block ⟨2, ![256, 256]⟩ ⟨2, ![8192, 256]⟩ 0 32 c X) (c : Dev nD) :
    outAt m ρ c = Layout.block ⟨2, ![256, 256]⟩ ⟨2, ![8192, 256]⟩ 0 32 c (cumsum X) := by
  have hx (d : Dev nD) : (xstg m ρ d : FVec Ideal S256x256 .f32) = Layout.block ⟨2, ![256, 256]⟩ ⟨2, ![8192, 256]⟩ 0 32 d X := (xstg_eq m ρ d).trans (hX d)
  funext y
  obtain ⟨i, l, rfl⟩ : ∃ i l : Fin 256, y = ix2 i l := ⟨y 0, y 1, eq_ix2 y⟩
  rw [block_ix2, cumsum_apply, Sums.prefix_eq]
  unfold outAt
  rw [pay4_apply c _ _ (fun r => ∑ j ∈ Finset.range 256, col X l (r * 256 + j)) i l fun r => ?_, pay3_apply, hx c]
  · exact congrArg (· + _) (Finset.sum_congr rfl fun k hk => col_block X c l k (by have := Finset.mem_range.1 hk; have := i.isLt; omega))
  · have e : inRow (ix3 r 0 l) = ix3 0 0 l := funext fun a => match a with | ⟨0, _⟩ => rfl | ⟨1, _⟩ => rfl | ⟨2, _⟩ => rfl
    unfold tot
    rw [e, pay2_apply, hx]
    exact Finset.sum_congr rfl fun k hk => col_block X r l k (Finset.mem_range.1 hk)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's run, in its own float arithmetic: it ends, its argument is unchanged, every semaphore counter is zero. -/
theorem frame_kernel : Cert.quiescent_Kernel := fun m ρ _ =>
  (θ_run Cert.Kernel.defs _ _).mono (fun _ h => ⟨fun c => (h.1 c).2, h.2⟩)
    (Cert.Kernel.Scan.run_values (F := Bits) m ρ)

/-- The same of the kernel in exact arithmetic. -/
theorem frame_kernelIdeal : Cert.quiescent_KernelIdeal := fun m ρ _ =>
  (θ_run Cert.KernelIdeal.defs _ _).mono (fun _ h => ⟨fun c => (h.1 c).2, h.2⟩)
    (Cert.KernelIdeal.Scan.run_values (F := Ideal) m ρ)

/-- The reference is a straight line of host operations and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- No operation of the kernel was rewritten. -/
theorem preserves_kernel : Cert.preserves_Kernel_KernelIdeal := trivial

/-- In exact arithmetic every device ends with its block of rows of the running sum of the whole array, which is the
    reference's result (`Cert.Value.out_eq`). -/
theorem algebraic_kernel : Cert.algebraic_KernelIdeal_ReferenceIdeal := fun m ρ m' ρ' _ hX =>
  ⟨Cert.Value.cumsum (m' (((0 : Dev Cert.ReferenceIdeal.nD).tc : Thread _ Cert.ReferenceIdeal.τ).loc Cert.ReferenceIdeal.main_arg0)),
    (θ_run Cert.KernelIdeal.defs _ _).mono
      (fun _ h c => ⟨(h.1 c).1.trans (Cert.Value.out_eq m ρ _ hX c), (h.1 c).2⟩)
      (Cert.KernelIdeal.Scan.run_values (F := Ideal) m ρ),
    (θ_run Cert.ReferenceIdeal.defs _ _).mono (fun _ h => h 0)
      (Cert.ReferenceIdeal.Value.run (F := Ideal) m' ρ')⟩

/-- All five claims, after the generated facts about each program. -/
theorem claim : Cert.Claim :=
  ⟨Cert.Kernel.Gen.facts, Cert.KernelIdeal.Gen.facts, Cert.ReferenceIdeal.Gen.facts,
    frame_kernel, frame_kernelIdeal, frame_reference, preserves_kernel, algebraic_kernel⟩

end Cert.Proof

end
